-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8192x768 : Shape := ⟨3, ![4, 8192, 768]⟩
abbrev S16x768 : Shape := ⟨2, ![16, 768]⟩
abbrev S4x768 : Shape := ⟨2, ![4, 768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S16x768 : S_.BroadcastsInDim S16x768 (![] : Fin 0 → Fin S16x768.rank)
  reducesTo_S16x768_S_d0_1 : S16x768.ReducesTo [0, 1] S_

variable [Facts]

def fn {F : FTy → Type} [FloatOps F] (main_arg0 : FVec F S4x8192x768 .f32) (main_arg1 : FVec F S16x768 .f32) (main_arg2 : FVec F S4x768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S16x768 .f32 := Host.absf main_arg1
  let main_cst_0 : FVec F S_ .f32 := constant S_ .f32 0x7F800000#32
  let main_v5 : FVec F S16x768 .f32 := broadcastInDim S16x768 ![] bcast_S_S16x768 main_cst_0
  let main_v6 : IVec S16x768 1 := cmpf .olt main_v4 main_v5
  let main_c_1 : IVec S_ 1 := constantI S_ 1 1#1
  let main_v7 : IVec S_ 1 := (fun x v => Host.reduce IntOp.andi x v reducesTo_S16x768_S_d0_1 h_S_) main_v6 main_c_1
  let main_v8 : IVec S_ 1 := andi main_v3 main_v7
  main_v8
-- ==== Kernel.lean ====
abbrev S4x8192x768 : Shape := ⟨3, ![4, 8192, 768]⟩
abbrev S16x768 : Shape := ⟨2, ![16, 768]⟩
abbrev S4x768 : Shape := ⟨2, ![4, 768]⟩
abbrev S32768x768 : Shape := ⟨2, ![32768, 768]⟩
abbrev S_ : Shape := ⟨0, ![]⟩
abbrev S32x768 : Shape := ⟨2, ![32, 768]⟩
abbrev S1 : Shape := ⟨1, ![1]⟩
abbrev S2x32768 : Shape := ⟨2, ![2, 32768]⟩
abbrev S32768x64 : Shape := ⟨2, ![32768, 64]⟩
abbrev S1x1 : Shape := ⟨2, ![1, 1]⟩
abbrev S32768x2 : Shape := ⟨2, ![32768, 2]⟩
abbrev S4096x768 : Shape := ⟨2, ![4096, 768]⟩
abbrev S2x4096 : Shape := ⟨2, ![2, 4096]⟩
abbrev S4096x64 : Shape := ⟨2, ![4096, 64]⟩
abbrev S64x1 : Shape := ⟨2, ![64, 1]⟩
abbrev S32x4096 : Shape := ⟨2, ![32, 4096]⟩
abbrev S16x4096 : Shape := ⟨2, ![16, 4096]⟩
abbrev S4x4096 : Shape := ⟨2, ![4, 4096]⟩
abbrev S4096 : Shape := ⟨1, ![4096]⟩
abbrev S1x4096 : Shape := ⟨2, ![1, 4096]⟩
abbrev S64x4096 : Shape := ⟨2, ![64, 4096]⟩
abbrev S64 : Shape := ⟨1, ![64]⟩
abbrev S1x16x4096 : Shape := ⟨3, ![1, 16, 4096]⟩
abbrev S1x1x1 : Shape := ⟨3, ![1, 1, 1]⟩
abbrev S1x4x4096 : Shape := ⟨3, ![1, 4, 4096]⟩
abbrev S1x64x1 : Shape := ⟨3, ![1, 64, 1]⟩

abbrev nBuf : Space → Nat
  | .hbm => 17
  | .vmem => 11
  | .smem => 0
  | _ => 0

abbrev bufTy : (tb : Table) → Fin (tcTables nBuf tb) → BufTy
  | .hbm, ⟨0, _⟩ => ⟨S4x8192x768, .f32⟩
  | .hbm, ⟨1, _⟩ => ⟨S16x768, .f32⟩
  | .hbm, ⟨2, _⟩ => ⟨S4x768, .f32⟩
  | .hbm, ⟨3, _⟩ => ⟨S32768x768, .f32⟩
  | .hbm, ⟨4, _⟩ => ⟨S_, .f32⟩
  | .hbm, ⟨5, _⟩ => ⟨S32x768, .f32⟩
  | .hbm, ⟨6, _⟩ => ⟨S_, .i32⟩
  | .hbm, ⟨7, _⟩ => ⟨S1, .i32⟩
  | .hbm, ⟨8, _⟩ => ⟨S32x768, .f32⟩
  | .hbm, ⟨9, _⟩ => ⟨S_, .i32⟩
  | .hbm, ⟨10, _⟩ => ⟨S1, .i32⟩
  | .hbm, ⟨11, _⟩ => ⟨S32x768, .f32⟩
  | .hbm, ⟨12, _⟩ => ⟨S2x32768, .f32⟩
  | .hbm, ⟨13, _⟩ => ⟨S32768x64, .f32⟩
  | .hbm, ⟨14, _⟩ => ⟨S1x1, .f32⟩
  | .hbm, ⟨15, _⟩ => ⟨S32768x2, .f32⟩
  | .hbm, ⟨16, _⟩ => ⟨S_, .f32⟩
  | .local _ .vmem, ⟨0, _⟩ => ⟨S4096x768, .f32⟩
  | .local _ .vmem, ⟨1, _⟩ => ⟨S4096x768, .f32⟩
  | .local _ .vmem, ⟨2, _⟩ => ⟨S32x768, .f32⟩
  | .local _ .vmem, ⟨3, _⟩ => ⟨S2x4096, .f32⟩
  | .local _ .vmem, ⟨4, _⟩ => ⟨S2x4096, .f32⟩
  | .local _ .vmem, ⟨5, _⟩ => ⟨S4096x64, .f32⟩
  | .local _ .vmem, ⟨6, _⟩ => ⟨S4096x64, .f32⟩
  | .local _ .vmem, ⟨7, _⟩ => ⟨S1x1, .f32⟩
  | .local _ .vmem, ⟨8, _⟩ => ⟨S64x1, .f32⟩
  | .local _ .vmem, ⟨9, _⟩ => ⟨S1x1, .f32⟩
  | .local _ .vmem, ⟨10, _⟩ => ⟨S1x1, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_c : Ref sig .tc := ⟨.hbm, 6, rfl⟩
abbrev main_call0_v2 : Ref sig .tc := ⟨.hbm, 7, rfl⟩
abbrev main_call0_v3 : Ref sig .tc := ⟨.hbm, 8, rfl⟩
abbrev main_call0_c_0 : Ref sig .tc := ⟨.hbm, 9, rfl⟩
abbrev main_call0_v4 : Ref sig .tc := ⟨.hbm, 10, rfl⟩
abbrev main_call0_v5 : Ref sig .tc := ⟨.hbm, 11, rfl⟩
abbrev main_call0_v6_0 : Ref sig .tc := ⟨.hbm, 12, rfl⟩
abbrev main_v0_1 : Ref sig .tc := ⟨.hbm, 13, rfl⟩
abbrev main_call0_v6_2 : Ref sig .tc := ⟨.hbm, 14, rfl⟩
abbrev main_v0_0 : Ref sig .tc := ⟨.hbm, 15, rfl⟩
abbrev main_v0_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v130 : BitVec 1 := Scalar.cmpi .eq arg0 c7_i32
  let v131 : BitVec 32 := Scalar.extui v130
  let c0_i32_44 : BitVec 32 := 0#32
  let v132 : BitVec 1 := Scalar.cmpi .ne v131 c0_i32_44
  v132

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4x8192x768 : Shape := ⟨3, ![4, 8192, 768]⟩
abbrev S16x768 : Shape := ⟨2, ![16, 768]⟩
abbrev S4x768 : Shape := ⟨2, ![4, 768]⟩
abbrev S32768x768 : Shape := ⟨2, ![32768, 768]⟩
abbrev S768x16 : Shape := ⟨2, ![768, 16]⟩
abbrev S32768x16 : Shape := ⟨2, ![32768, 16]⟩
abbrev S_ : Shape := ⟨0, ![]⟩
abbrev S32768 : Shape := ⟨1, ![32768]⟩
abbrev S32768x1 : Shape := ⟨2, ![32768, 1]⟩
abbrev S768x4 : Shape := ⟨2, ![768, 4]⟩
abbrev S32768x4 : Shape := ⟨2, ![32768, 4]⟩
abbrev S32768x2 : Shape := ⟨2, ![32768, 2]⟩
abbrev S32768x64 : Shape := ⟨2, ![32768, 64]⟩
abbrev S64 : Shape := ⟨1, ![64]⟩

abbrev nBuf : Space → Nat
  | .hbm => 133
  | .vmem => 0
  | .smem => 0
  | _ => 0

abbrev hbmTy0_0 (i : Nat) : BufTy := match i % 128 with
  | 0 => ⟨S4x8192x768, .f32⟩
  | 1 => ⟨S16x768, .f32⟩
  | 2 => ⟨S4x768, .f32⟩
  | 3 => ⟨S32768x768, .f32⟩
  | 4 => ⟨S768x16, .f32⟩
  | 5 => ⟨S32768x16, .f32⟩
  | 6 => ⟨S_, .f32⟩
  | 7 => ⟨S32768, .f32⟩
  | 8 => ⟨S_, .f32⟩
  | 9 => ⟨S32768, .f32⟩
  | 10 => ⟨S32768, .f32⟩
  | 11 => ⟨S32768x1, .f32⟩
  | 12 => ⟨S32768x16, .f32⟩
  | 13 => ⟨S32768x16, .f32⟩
  | 14 => ⟨S32768x16, .f32⟩
  | 15 => ⟨S_, .f32⟩
  | 16 => ⟨S32768, .f32⟩
  | 17 => ⟨S32768x1, .f32⟩
  | 18 => ⟨S32768x16, .f32⟩
  | 19 => ⟨S32768x16, .f32⟩
  | 20 => ⟨S32768x1, .f32⟩
  | 21 => ⟨S32768x1, .i32⟩
  | 22 => ⟨S32768, .i32⟩
  | 23 => ⟨S32768, .f32⟩
  | 24 => ⟨S768x4, .f32⟩
  | 25 => ⟨S32768x4, .f32⟩
  | 26 => ⟨S_, .f32⟩
  | 27 => ⟨S32768, .f32⟩
  | 28 => ⟨S_, .f32⟩
  | 29 => ⟨S32768, .f32⟩
  | 30 => ⟨S32768, .f32⟩
  | 31 => ⟨S32768x1, .f32⟩
  | 32 => ⟨S32768x4, .f32⟩
  | 33 => ⟨S32768x4, .f32⟩
  | 34 => ⟨S32768x4, .f32⟩
  | 35 => ⟨S_, .f32⟩
  | 36 => ⟨S32768, .f32⟩
  | 37 => ⟨S32768x1, .f32⟩
  | 38 => ⟨S32768x4, .f32⟩
  | 39 => ⟨S32768x4, .f32⟩
  | 40 => ⟨S32768x2, .f32⟩
  | 41 => ⟨S32768x2, .i32⟩
  | 42 => ⟨S_, .i32⟩
  | 43 => ⟨S32768, .i32⟩
  | 44 => ⟨S32768, .i32⟩
  | 45 => ⟨S32768x1, .i32⟩
  | 46 => ⟨S32768x2, .i32⟩
  | 47 => ⟨S32768x2, .i32⟩
  | 48 => ⟨S_, .f32⟩
  | 49 => ⟨S32768, .f32⟩
  | 50 => ⟨S32768x1, .f32⟩
  | 51 => ⟨S_, .f32⟩
  | 52 => ⟨S32768x1, .f32⟩
  | 53 => ⟨S32768x1, .f32⟩
  | 54 => ⟨S32768x2, .f32⟩
  | 55 => ⟨S32768x2, .f32⟩
  | 56 => ⟨S32768x1, .f32⟩
  | 57 => ⟨S32768x2, .f32⟩
  | 58 => ⟨S32768x2, .f32⟩
  | 59 => ⟨S_, .f32⟩
  | 60 => ⟨S32768x64, .f32⟩
  | 61 => ⟨S32768, .i32⟩
  | 62 => ⟨S32768x1, .i32⟩
  | 63 => ⟨S32768, .i32⟩
  | 64 => ⟨S32768x1, .f32⟩
  | 65 => ⟨S32768, .f32⟩
  | 66 => ⟨S_, .i32⟩
  | 67 => ⟨S32768, .i32⟩
  | 68 => ⟨S32768, .i1⟩
  | 69 => ⟨S_, .i32⟩
  | 70 => ⟨S32768, .i32⟩
  | 71 => ⟨S32768, .i32⟩
  | 72 => ⟨S32768, .i32⟩
  | 73 => ⟨S_, .i32⟩
  | 74 => ⟨S32768, .i32⟩
  | 75 => ⟨S32768, .i1⟩
  | 76 => ⟨S_, .i32⟩
  | 77 => ⟨S32768, .i32⟩
  | 78 => ⟨S32768, .i32⟩
  | 79 => ⟨S32768, .i32⟩
  | 80 => ⟨S32768x1, .i32⟩
  | 81 => ⟨S32768x1, .i32⟩
  | 82 => ⟨S32768x2, .i32⟩
  | 83 => ⟨S32768x64, .f32⟩
  | 84 => ⟨S32768x1, .i32⟩
  | 85 => ⟨S32768, .i32⟩
  | 86 => ⟨S32768x1, .f32⟩
  | 87 => ⟨S32768, .f32⟩
  | 88 => ⟨S_, .i32⟩
  | 89 => ⟨S32768, .i32⟩
  | 90 => ⟨S32768, .i1⟩
  | 91 => ⟨S_, .i32⟩
  | 92 => ⟨S32768, .i32⟩
  | 93 => ⟨S32768, .i32⟩
  | 94 => ⟨S32768, .i32⟩
  | 95 => ⟨S_, .i32⟩
  | 96 => ⟨S32768, .i32⟩
  | 97 => ⟨S32768, .i1⟩
  | 98 => ⟨S_, .i32⟩
  | 99 => ⟨S32768, .i32⟩
  | 100 => ⟨S32768, .i32⟩
  | 101 => ⟨S32768, .i32⟩
  | 102 => ⟨S32768x1, .i32⟩
  | 103 => ⟨S32768x1, .i32⟩
  | 104 => ⟨S32768x2, .i32⟩
  | 105 => ⟨S32768x64, .f32⟩
  | 106 => ⟨S_, .f32⟩
  | 107 => ⟨S64, .f32⟩
  | 108 => ⟨S_, .f32⟩
  | 109 => ⟨S_, .f32⟩
  | 110 => ⟨S_, .f32⟩
  | 111 => ⟨S_, .f32⟩
  | 112 => ⟨S64, .f32⟩
  | 113 => ⟨S64, .f32⟩
  | 114 => ⟨S64, .f32⟩
  | 115 => ⟨S_, .f32⟩
  | 116 => ⟨S_, .f32⟩
  | 117 => ⟨S_, .f32⟩
  | 118 => ⟨S_, .f32⟩
  | 119 => ⟨S32768x16, .f32⟩
  | 120 => ⟨S_, .f32⟩
  | 121 => ⟨S_, .f32⟩
  | 122 => ⟨S_, .f32⟩
  | 123 => ⟨S_, .f32⟩
  | 124 => ⟨S32768x4, .f32⟩
  | 125 => ⟨S_, .f32⟩
  | 126 => ⟨S_, .f32⟩
  | 127 => ⟨S_, .f32⟩
  | _ => ⟨S4x8192x768, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | _ => ⟨S4x8192x768, .f32⟩

abbrev hbmTy (i : Nat) : BufTy := match i / 128 with
  | 0 => hbmTy0_0 i
  | 1 => hbmTy0_1 i
  | _ => ⟨S4x8192x768, .f32⟩

abbrev bufTy : (tb : Table) → Fin (tcTables nBuf tb) → BufTy
  | .hbm, ⟨i, _⟩ => hbmTy i
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_values_5 : Ref sig .tc := ⟨.hbm, 40, rfl⟩
abbrev main_indices_6 : Ref sig .tc := ⟨.hbm, 41, rfl⟩
abbrev main_c : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_10 : Ref sig .tc := ⟨.hbm, 66, rfl⟩
abbrev main_v49 : Ref sig .tc := ⟨.hbm, 67, rfl⟩
abbrev main_v50 : Ref sig .tc := ⟨.hbm, 68, rfl⟩
abbrev main_c_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_12 : Ref sig .tc := ⟨.hbm, 73, rfl⟩
abbrev main_v54 : Ref sig .tc := ⟨.hbm, 74, rfl⟩
abbrev main_v55 : Ref sig .tc := ⟨.hbm, 75, rfl⟩
abbrev main_c_13 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_14 : Ref sig .tc := ⟨.hbm, 88, rfl⟩
abbrev main_v67 : Ref sig .tc := ⟨.hbm, 89, rfl⟩
abbrev main_v68 : Ref sig .tc := ⟨.hbm, 90, rfl⟩
abbrev main_c_15 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_16 : Ref sig .tc := ⟨.hbm, 95, rfl⟩
abbrev main_v72 : Ref sig .tc := ⟨.hbm, 96, rfl⟩
abbrev main_v73 : Ref sig .tc := ⟨.hbm, 97, rfl⟩
abbrev main_c_17 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_18 : Ref sig .tc := ⟨.hbm, 106, rfl⟩
abbrev main_v81 : Ref sig .tc := ⟨.hbm, 107, rfl⟩
abbrev main_cst_19 : Ref sig .tc := ⟨.hbm, 108, rfl⟩
abbrev main_v82 : Ref sig .tc := ⟨.hbm, 109, rfl⟩
abbrev main_cst_20 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_21 : Ref sig .tc := ⟨.hbm, 115, rfl⟩
abbrev main_v87 : Ref sig .tc := ⟨.hbm, 116, rfl⟩
abbrev main_cst_22 : Ref sig .tc := ⟨.hbm, 117, rfl⟩
abbrev main_v88 : Ref sig .tc := ⟨.hbm, 118, rfl⟩
abbrev main_v89 : Ref sig .tc := ⟨.hbm, 119, rfl⟩
abbrev main_cst_23 : Ref sig .tc := ⟨.hbm, 120, rfl⟩
abbrev main_v90 : Ref sig .tc := ⟨.hbm, 121, rfl⟩
abbrev main_cst_24 : Ref sig .tc := ⟨.hbm, 122, rfl⟩
abbrev main_v91 : Ref sig .tc := ⟨.hbm, 123, rfl⟩
abbrev main_v92 : Ref sig .tc := ⟨.hbm, 124, rfl⟩
abbrev main_cst_25 : Ref sig .tc := ⟨.hbm, 125, rfl⟩
abbrev main_v93 : Ref sig .tc := ⟨.hbm, 126, rfl⟩
abbrev main_cst_26 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_27 : Ref sig .tc := ⟨.hbm, 131, rfl⟩
abbrev main_v97 : Ref sig .tc := ⟨.hbm, 132, rfl⟩

abbrev nD : Nat := 1
abbrev τ : Topo := Topo.v7x

variable {F : FTy → Type} [FloatOps F]
-- ==== Proof.Pick.lean ====
/- The first greatest entry of a finite family of extended reals, and the second one: what a maximum followed by
   a minimum over the indices that reach it finds, what a masked second round finds, and what a stable sort puts
   at its first two positions. -/
module

public import Idealize.ShloMosaic.Lib.IdealHost
public import Idealize.ShloMosaic.Lib.SortPrefix

@[expose] public section

noncomputable section

namespace Router

open Idealize.ShloMosaic

variable {n : ℕ}

/-- `b` is the first greatest entry of `v` among the indices in `S`. -/
structure Pick (S : Fin n → Prop) (v : Fin n → EReal) (b : Fin n) : Prop where
  mem : S b
  le : ∀ k, S k → v k ≤ v b
  lt : ∀ k, S k → k < b → v k < v b

theorem exists_pick (S : Fin n → Prop) (v : Fin n → EReal) (k₀ : Fin n) (h₀ : S k₀) : ∃ b, Pick S v b := by
  classical
  obtain ⟨m, hm, hmax⟩ := Finset.exists_max_image (Finset.univ.filter S) v ⟨k₀, by simpa using h₀⟩
  have hS : S m := by simpa using hm
  have hmax' : ∀ k, S k → v k ≤ v m := fun k hk => hmax k (by simpa using hk)
  obtain ⟨b, hb, hmin⟩ := Finset.exists_min_image (Finset.univ.filter fun k => S k ∧ v k = v m) id ⟨m, by simpa using hS⟩
  have hb' : S b ∧ v b = v m := by simpa using hb
  refine ⟨b, hb'.1, fun k hk => hb'.2 ▸ hmax' k hk, fun k hk hkb => ?_⟩
  refine lt_of_le_of_ne (hb'.2 ▸ hmax' k hk) fun e => ?_
  have : b ≤ k := hmin k (by simpa using ⟨hk, e.trans hb'.2⟩)
  exact absurd hkb (not_lt.2 this)

theorem Pick.unique {S : Fin n → Prop} {v : Fin n → EReal} {a b : Fin n} (ha : Pick S v a) (hb : Pick S v b) : a = b := by
  rcases lt_trichotomy a b with h | h | h
  · exact absurd (hb.lt a ha.mem h) (not_lt.2 (ha.le b hb.mem))
  · exact h
  · exact absurd (ha.lt b hb.mem h) (not_lt.2 (hb.le a ha.mem))

/-- A strictly increasing change of the values leaves the pick. -/
theorem Pick.mono {S : Fin n → Prop} {v p : Fin n → EReal} {b : Fin n} (h : Pick S v b) (hp : ∀ i j, v i < v j → p i < p j)
    (hq : ∀ i j, v i = v j → p i = p j) : Pick S p b where
  mem := h.mem
  le k hk := (lt_or_eq_of_le (h.le k hk)).elim (fun g => (hp _ _ g).le) fun g => (hq _ _ g).le
  lt k hk hkb := hp _ _ (h.lt k hk hkb)

/-- The maximum from `-∞`, the entries outside `S` masked with `-∞`. -/
theorem Pick.fold_max {S : Fin n → Prop} {v w : Fin n → EReal} {b : Fin n} (h : Pick S v b)
    (hw : ∀ k, S k → w k = v k) (hn : ∀ k, ¬ S k → w k = ⊥) : Finset.univ.fold max ⊥ w = v b := by
  refine le_antisymm (Finset.fold_max_le _ |>.2 ⟨bot_le, fun k _ => ?_⟩) ?_
  · by_cases hk : S k
    · rw [hw k hk]; exact h.le k hk
    · rw [hn k hk]; exact bot_le
  · rw [Finset.le_fold_max]
    exact Or.inr ⟨b, Finset.mem_univ b, (hw b h.mem).ge⟩

/-- The least index whose entry reaches the maximum; the others count as `c`, above every index. -/
theorem Pick.fold_min {S : Fin n → Prop} {v : Fin n → EReal} {b : Fin n} (h : Pick S v b) (f : Fin n → EReal) (c : EReal)
    (hc : ∀ k : Fin n, ((k.val : ℝ) : EReal) ≤ c) (hf : ∀ k, S k → v b ≤ v k → f k = ((k.val : ℝ) : EReal))
    (hf' : ∀ k, (S k → ¬ v b ≤ v k) → f k = c) :
    Finset.univ.fold min ⊤ f = ((b.val : ℝ) : EReal) := by
  refine le_antisymm ?_ (Finset.le_fold_min _ |>.2 ⟨le_top, fun k _ => ?_⟩)
  · rw [Finset.fold_min_le]
    exact Or.inr ⟨b, Finset.mem_univ b, (hf b h.mem le_rfl).le⟩
  · by_cases hk : S k ∧ v b ≤ v k
    · rw [hf k hk.1 hk.2]
      have : b ≤ k := not_lt.1 fun g => absurd (h.lt k hk.1 g) (not_lt.2 hk.2)
      exact_mod_cast this
    · rw [hf' k fun s t => hk ⟨s, t⟩]
      exact hc b

/-! ## The stable sort -/

/-- The value first, greater before; then the position. -/
def lexBefore (p : Fin n → EReal) (k k' : Fin n) : Bool := decide (p k' < p k) || (decide (p k = p k') && decide (k < k'))

theorem lexBefore_total (p : Fin n → EReal) : StrictTotalBefore (lexBefore p) :=
  StrictTotalBefore.of_key_then_position (fun a b => decide (b < a)) p (fun a => by simp)
    (fun a b c h g => by simp only [decide_eq_true_eq] at *; exact lt_trans g h)
    (fun a b => by
      rcases lt_trichotomy a b with h | h | h
      · exact Or.inr (Or.inr (by simpa using h))
      · exact Or.inr (Or.inl h)
      · exact Or.inl (by simpa using h))

/-- The stable sort never asks whether an earlier position is before a later one. -/
theorem stableSort_congr_of_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

theorem sortedFrom_congr_of_later (R R' : Fin n → Fin n → Bool) (h : ∀ a b, a < b → R b a = R' b a) :
    sortedFrom R = sortedFrom R' := by
  funext k
  have e : sortPositions n R = sortPositions n R' :=
    stableSort_congr_of_later R R' _ ((List.pairwise_lt_finRange n).imp fun {a b} g => h a b g)
  unfold sortedFrom
  rw [List.get_of_eq e]
  rfl

theorem sortedFrom_gt (p : Fin n → EReal) (B : Fin n → Fin n → Bool) (hB : ∀ k k', B k k' = decide (p k' < p k)) :
    sortedFrom B = sortedFrom (lexBefore p) :=
  sortedFrom_congr_of_later _ _ fun a b hab => by
    rw [hB]
    simp [lexBefore, not_lt.2 hab.le]

/-- The stable sort's first position. -/
theorem Pick.sorted_first {p : Fin n → EReal} {a : Fin n} (ha : Pick (fun _ => True) p a) (B : Fin n → Fin n → Bool)
    (hB : ∀ k k', B k k' = decide (p k' < p k)) (h0 : 0 < n) : sortedFrom B ⟨0, h0⟩ = a := by
  rw [sortedFrom_gt p B hB]
  refine (lexBefore_total p).sortedFrom_eq_of_prefix (k := 1) h0 (fun _ => a) (fun i j _ => Subsingleton.elim i j)
    (fun i j hij => absurd hij (by simp [Subsingleton.elim i j])) (fun i q hq => ?_) 0
  have hne : a ≠ q := hq 0
  simp only [lexBefore, Bool.or_eq_false_iff, Bool.and_eq_false_iff, decide_eq_false_iff_not]
  refine ⟨not_lt.2 (ha.le q trivial), ?_⟩
  by_cases e : p q = p a
  · refine Or.inr fun g => ?_
    exact absurd (ha.lt q trivial g) (by simp [e])
  · exact Or.inl e

/-- Its second position. -/
theorem Pick.sorted_second {p : Fin n → EReal} {a b : Fin n} (ha : Pick (fun _ => True) p a) (hb : Pick (fun k => k ≠ a) p b)
    (B : Fin n → Fin n → Bool) (hB : ∀ k k', B k k' = decide (p k' < p k)) (h1 : 1 < n) : sortedFrom B ⟨1, h1⟩ = b := by
  rw [sortedFrom_gt p B hB]
  have key : ∀ {S : Fin n → Prop} {c : Fin n}, Pick S p c → ∀ q, S q → q ≠ c → lexBefore p q c = false := by
    intro S c hc q hq _
    simp only [lexBefore, Bool.or_eq_false_iff, Bool.and_eq_false_iff, decide_eq_false_iff_not]
    refine ⟨not_lt.2 (hc.le q hq), ?_⟩
    by_cases e : p q = p c
    · exact Or.inr fun g => absurd (hc.lt q hq g) (by simp [e])
    · exact Or.inl e
  refine (lexBefore_total p).sortedFrom_eq_of_prefix (k := 2) h1 ![a, b] ?_ ?_ ?_ 1
  · intro i j
    have := hb.mem
    fin_cases i <;> fin_cases j <;> simp [hb.mem, Ne.symm hb.mem]
  · intro i j hij
    have hi : i = 0 ∧ j = 1 := by omega
    obtain ⟨rfl, rfl⟩ := hi
    exact key ha b trivial hb.mem
  · intro i q hq
    have q0 : a ≠ q := hq 0
    have q1 : b ≠ q := hq 1
    fin_cases i
    · exact key ha q trivial (Ne.symm q0)
    · exact key hb q (Ne.symm q0) (Ne.symm q1)

end Router

end
-- ==== Proof.Spec.lean ====
/- One token of the router: from the logits of its groups and of its experts, the two weights, the two columns and
   the row of the mask; and what the logits, the mask's column sums and the loss are over all the tokens. -/
module

public import proofs.«01_k».proof.Proof.Pick

@[expose] public section

noncomputable section

namespace Router

open Idealize.ShloMosaic
open scoped BigOperators

/-! ## Constants -/

theorem bits_neg_inf : Ideal.ofBits .f32 0xFF800000#32 = ⊥ := by simp [Ideal.ofBits, Ideal.ieee]
theorem bits_inf : Ideal.ofBits .f32 0x7F800000#32 = ⊤ := by simp [Ideal.ofBits, Ideal.ieee]
theorem bits_four : Ideal.ofBits .f32 0x40800000#32 = ((4 : ℝ) : EReal) := by
  simp [Ideal.ofBits, Ideal.ieee, -EReal.coe_mul]; norm_num
theorem bits_billion : Ideal.ofBits .f32 0x4E6E6B28#32 = ((1000000000 : ℝ) : EReal) := by
  simp [Ideal.ofBits, Ideal.ieee, -EReal.coe_mul]; norm_num
theorem bits_eps : Ideal.ofBits .f32 0x33D6BF95#32 = ((14073749 / 2 ^ 47 : ℝ) : EReal) := by
  simp [Ideal.ofBits, Ideal.ieee, -EReal.coe_mul]; norm_num
theorem bits_eps_nonneg : 0 ≤ Ideal.ofBits .f32 0x33D6BF95#32 := by
  rw [bits_eps]
  exact EReal.coe_nonneg.2 (by norm_num)

theorem toInt_ofNat {k : ℕ} (h : k < 64) : (BitVec.ofNat 32 k).toInt = k := by
  rw [BitVec.toInt_ofNat', Int.bmod_def]
  omega

theorem sitofp_ofNat {k : ℕ} (h : k < 64) :
    (FloatOps.sitofp (F := Ideal) FTy.f32 (BitVec.ofNat 32 k)) = ((k : ℝ) : EReal) := by
  show (((BitVec.ofNat 32 k).toInt : ℝ) : EReal) = _
  rw [toInt_ofNat h]
  norm_cast

/-! ## Quotients of reals -/

theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-! ## The picks -/

variable {n : ℕ}

/-- The first greatest entry. -/
def top (v : Fin (n + 1) → EReal) : Fin (n + 1) := Classical.choose (exists_pick (fun _ => True) v 0 trivial)

theorem top_pick (v : Fin (n + 1) → EReal) : Pick (fun _ => True) v (top v) :=
  Classical.choose_spec (exists_pick (fun _ => True) v 0 trivial)

theorem exists_other (a : Fin (n + 2)) : ∃ k : Fin (n + 2), k ≠ a := exists_ne a

/-- The first greatest of the others. -/
def second (v : Fin (n + 2) → EReal) : Fin (n + 2) :=
  Classical.choose (exists_pick (fun k => k ≠ top v) v _ (Classical.choose_spec (exists_other (top v))))

theorem second_pick (v : Fin (n + 2) → EReal) : Pick (fun k => k ≠ top v) v (second v) :=
  Classical.choose_spec (exists_pick (fun k => k ≠ top v) v _ (Classical.choose_spec (exists_other (top v))))

/-! ## The softmax -/

/-- Every entry is a real. -/
def Reals (v : Fin n → EReal) : Prop := ∃ w : Fin n → ℝ, ∀ k, v k = (w k : EReal)

def expo (v : Fin (n + 1) → EReal) (k : Fin (n + 1)) : EReal := Ideal.exp (v k - v (top v))
def prob (v : Fin (n + 1) → EReal) (k : Fin (n + 1)) : EReal := Ideal.div (expo v k) (∑ j, expo v j)

theorem coe_sum {ι : Type} (s : Finset ι) (f : ι → ℝ) : ((∑ i ∈ s, f i : ℝ) : EReal) = ∑ i ∈ s, (f i : EReal) :=
  map_sum (⟨⟨fun r : ℝ => (r : EReal), rfl⟩, EReal.coe_add⟩ : ℝ →+ EReal) f s

theorem three_cases (x : EReal) : x = ⊥ ∨ (∃ r : ℝ, x = (r : EReal)) ∨ x = ⊤ := by
  induction x using EReal.rec with
  | bot => exact Or.inl rfl
  | coe r => exact Or.inr (Or.inl ⟨r, rfl⟩)
  | top => exact Or.inr (Or.inr rfl)

/-- The greatest entry is a real: the others are reals or `-∞`. -/
def Tame (v : Fin (n + 1) → EReal) : Prop := ∃ r : ℝ, v (top v) = (r : EReal)

theorem Reals.tame {v : Fin (n + 1) → EReal} (hv : Reals v) : Tame v := by
  obtain ⟨w, hw⟩ := hv
  exact ⟨_, hw _⟩

/-- The exponentials of a row with a real maximum. -/
theorem Tame.expos {v : Fin (n + 1) → EReal} (hv : Tame v) : ∃ w : Fin (n + 1) → ℝ, (∀ k, expo v k = (w k : EReal)) ∧ (∀ k, 0 ≤ w k)
    ∧ w (top v) = 1 ∧ (∀ i j, v i < v j → w i < w j) ∧ ∀ k, v k = ⊥ → w k = 0 := by
  obtain ⟨r, hr⟩ := hv
  have ne_top : ∀ k, v k ≠ ⊤ := fun k e => by
    have h := (top_pick v).le k trivial
    rw [e, hr] at h
    exact absurd (top_le_iff.1 h) (EReal.coe_ne_top r)
  have bot : ∀ k, v k = ⊥ → expo v k = ((0 : ℝ) : EReal) := fun k e => by
    unfold expo
    rw [e, EReal.bot_sub]
    rfl
  have real : ∀ k (q : ℝ), v k = (q : EReal) → expo v k = ((Real.exp (q - r) : ℝ) : EReal) := fun k q e => by
    unfold expo
    rw [e, hr, ← EReal.coe_sub]
    rfl
  have cases : ∀ k, v k = ⊥ ∨ ∃ q : ℝ, v k = (q : EReal) := fun k => by
    rcases three_cases (v k) with h | h | h
    · exact Or.inl h
    · exact Or.inr h
    · exact absurd h (ne_top k)
  refine ⟨fun k => (expo v k).toReal, fun k => ?_, fun k => ?_, ?_, fun i j hij => ?_, fun k e => ?_⟩
  · show expo v k = ((expo v k).toReal : EReal)
    rcases cases k with e | ⟨q, e⟩
    · rw [bot k e, EReal.toReal_coe]
    · rw [real k q e, EReal.toReal_coe]
  · show 0 ≤ (expo v k).toReal
    rcases cases k with e | ⟨q, e⟩
    · rw [bot k e, EReal.toReal_coe]
    · rw [real k q e, EReal.toReal_coe]; exact (Real.exp_pos _).le
  · show (expo v (top v)).toReal = 1
    rw [real _ r hr, EReal.toReal_coe, sub_self, Real.exp_zero]
  · show (expo v i).toReal < (expo v j).toReal
    rcases cases j with ej | ⟨b, ej⟩
    · rw [ej] at hij
      exact absurd hij not_lt_bot
    · rw [real j b ej, EReal.toReal_coe]
      rcases cases i with ei | ⟨a, ei⟩
      · rw [bot i ei, EReal.toReal_coe]
        exact Real.exp_pos _
      · rw [real i a ei, EReal.toReal_coe]
        rw [ei, ej, EReal.coe_lt_coe_iff] at hij
        exact Real.exp_lt_exp.2 (by linarith)
  · show (expo v k).toReal = 0
    rw [bot k e, EReal.toReal_coe]

/-- Their quotients by the sum. -/
theorem Tame.probs {v : Fin (n + 1) → EReal} (hv : Tame v) : ∃ p : Fin (n + 1) → ℝ, (∀ k, prob v k = (p k : EReal)) ∧ (∀ k, 0 ≤ p k)
    ∧ 0 < p (top v) ∧ (∀ i j, v i < v j → p i < p j) ∧ (∀ k, v k = ⊥ → p k = 0) ∧ Ideal.div 1 (∑ j, expo v j) = (p (top v) : EReal) := by
  obtain ⟨w, hw, w0, w1, wlt, wbot⟩ := hv.expos
  have hs : (∑ j, expo v j) = ((∑ j, w j : ℝ) : EReal) := by
    rw [coe_sum]
    exact Finset.sum_congr rfl fun j _ => hw j
  have spos : 0 < ∑ j, w j := Finset.sum_pos' (fun j _ => w0 j) ⟨top v, Finset.mem_univ _, by rw [w1]; exact one_pos⟩
  refine ⟨fun k => w k / ∑ j, w j, fun k => ?_, fun k => div_nonneg (w0 k) spos.le, ?_, fun i j h => ?_, fun k h => ?_, ?_⟩
  · unfold prob
    rw [hs, hw, div_coe _ _ spos.ne']
  · show 0 < w (top v) / _
    rw [w1]
    exact div_pos one_pos spos
  · exact div_lt_div_of_pos_right (wlt i j h) spos
  · show w k / _ = 0
    rw [wbot k h, zero_div]
  · rw [hs, ← EReal.coe_one, div_coe _ _ spos.ne']
    show _ = ((w (top v) / _ : ℝ) : EReal)
    rw [w1]

/-- With an infinite maximum every exponential is zero, and every probability is `0 / 0`. -/
theorem expo_wild {v : Fin (n + 1) → EReal} (hv : ¬ Tame v) (k : Fin (n + 1)) : expo v k = 0 := by
  have h : v k - v (top v) = ⊥ := by
    rcases three_cases (v (top v)) with e | e | e
    · have := (top_pick v).le k trivial
      rw [e] at this
      rw [le_bot_iff.1 this, EReal.bot_sub]
    · exact absurd e hv
    · rw [e, EReal.sub_top]
  unfold expo
  rw [h]
  rfl

theorem sum_wild {v : Fin (n + 1) → EReal} (hv : ¬ Tame v) : (∑ j, expo v j) = 0 :=
  Finset.sum_eq_zero fun j _ => expo_wild hv j

theorem prob_wild {v : Fin (n + 1) → EReal} (hv : ¬ Tame v) (k : Fin (n + 1)) : prob v k = ⊥ := by
  unfold prob Ideal.div
  rw [sum_wild hv, expo_wild hv, if_pos rfl, if_neg (lt_irrefl _)]

theorem prob_lt {v : Fin (n + 1) → EReal} (hv : Tame v) (i j : Fin (n + 1)) (h : v i < v j) : prob v i < prob v j := by
  obtain ⟨p, hp, _, _, plt, _⟩ := hv.probs
  rw [hp, hp, EReal.coe_lt_coe_iff]
  exact plt i j h

theorem prob_congr (v : Fin (n + 1) → EReal) (i j : Fin (n + 1)) (h : v i = v j) : prob v i = prob v j := by
  unfold prob expo; rw [h]

theorem prob_top {v : Fin (n + 1) → EReal} (hv : Tame v) : prob v (top v) = Ideal.div 1 (∑ j, expo v j) := by
  obtain ⟨p, hp, _, _, _, _, h⟩ := hv.probs
  rw [hp, h]

theorem prob_top_pick {v : Fin (n + 1) → EReal} (hv : Tame v) : Pick (fun _ => True) (prob v) (top v) :=
  (top_pick v).mono (prob_lt hv) (prob_congr v)

theorem prob_second_pick {v : Fin (n + 2) → EReal} (hv : Tame v) : Pick (fun k => k ≠ top v) (prob v) (second v) :=
  (second_pick v).mono (prob_lt hv) (prob_congr v)

/-- The picks among the probabilities are the picks among the logits. -/
theorem top_prob {v : Fin (n + 1) → EReal} (hv : Tame v) : top (prob v) = top v :=
  (top_pick (prob v)).unique (prob_top_pick hv)

theorem second_prob {v : Fin (n + 2) → EReal} (hv : Tame v) : second (prob v) = second v := by
  have h := second_pick (prob v)
  rw [top_prob hv] at h
  exact h.unique (prob_second_pick hv)

/-! ## One token -/

/-- The expert taken first and the expert taken second. -/
def expert (L : Fin 4 → EReal) (i : Fin 2) : Fin 4 := if i = 0 then top L else second L

def den (L : Fin 4 → EReal) : EReal := prob L (top L) + prob L (second L) + Ideal.ofBits .f32 0x33D6BF95#32

/-- The weight of the token's `i`-th expert. -/
def wt (G : Fin 16 → EReal) (L : Fin 4 → EReal) (i : Fin 2) : EReal :=
  prob G (top G) * Ideal.div (prob L (expert L i)) (den L)

/-- Its column among the 64. -/
def col (G : Fin 16 → EReal) (L : Fin 4 → EReal) (i : Fin 2) : ℕ := (top G).val * 4 + (expert L i).val

/-- The token's row of the mask. -/
def mrow (G : Fin 16 → EReal) (L : Fin 4 → EReal) (c : Fin 64) : EReal :=
  (if c.val = col G L 0 then wt G L 0 else 0) + (if c.val = col G L 1 then wt G L 1 else 0)

theorem col_lt (G : Fin 16 → EReal) (L : Fin 4 → EReal) (i : Fin 2) : col G L i < 64 := by
  unfold col; omega

theorem col_ne (G : Fin 16 → EReal) (L : Fin 4 → EReal) : col G L 0 ≠ col G L 1 := by
  intro h
  have h1 : (expert L 0).val = (expert L 1).val := by unfold col at h; omega
  exact (second_pick L).mem (Fin.ext (by simpa [expert] using h1.symm))

theorem bot_add_eps : (⊥ : EReal) + Ideal.ofBits .f32 0x33D6BF95#32 = ⊥ := EReal.bot_add _

theorem den_ne {L : Fin 4 → EReal} (hL : Tame L) : den L ≠ 0 := by
  obtain ⟨p, hp, p0, p1, _⟩ := hL.probs
  unfold den
  rw [hp, hp]
  exact (add_pos_of_pos_of_nonneg (add_pos_of_pos_of_nonneg (EReal.coe_pos.2 p1) (EReal.coe_nonneg.2 (p0 _))) bits_eps_nonneg).ne'

theorem den_wild {L : Fin 4 → EReal} (hL : ¬ Tame L) : den L = ⊥ := by
  unfold den
  rw [prob_wild hL, EReal.bot_add, bot_add_eps]

theorem div_bot (a : EReal) : Ideal.div a ⊥ = 0 := by
  unfold Ideal.div
  rw [if_neg EReal.bot_ne_zero, EReal.inv_bot, mul_zero]

/-- With an infinite greatest expert logit the weights are zero. -/
theorem wt_wild (G : Fin 16 → EReal) {L : Fin 4 → EReal} (hL : ¬ Tame L) (i : Fin 2) : wt G L i = 0 := by
  unfold wt
  rw [den_wild hL, div_bot, mul_zero]

/-- With `-∞` as second greatest expert logit the second weight is zero. -/
theorem wt_second_bot (G : Fin 16 → EReal) {L : Fin 4 → EReal} (h : L (second L) = ⊥) : wt G L 1 = 0 := by
  by_cases hL : Tame L
  · have hne := den_ne hL
    obtain ⟨p, hp, _, _, _, pbot, _⟩ := hL.probs
    unfold wt expert
    rw [if_neg (by decide), hp, pbot _ h]
    unfold Ideal.div
    rw [if_neg hne, EReal.coe_zero, zero_mul, mul_zero]
  · exact wt_wild G hL 1

theorem prob_expert (L : Fin 4 → EReal) (i : Fin 2) : prob L (expert (prob L) i) = prob L (expert L i) := by
  by_cases hL : Tame L
  · unfold expert
    rw [top_prob hL, second_prob hL]
  · rw [prob_wild hL, prob_wild hL]

theorem col_prob (G : Fin 16 → EReal) {L : Fin 4 → EReal} (hL : Tame L) (i : Fin 2) : col G (prob L) i = col G L i := by
  unfold col expert
  rw [top_prob hL, second_prob hL]

/-- The row of the mask as it is overwritten, at the columns of the probabilities' picks. -/
theorem mrow_prob (G : Fin 16 → EReal) (L : Fin 4 → EReal) (c : Fin 64) :
    (if c.val = col G (prob L) 1 then wt G L 1 else if c.val = col G (prob L) 0 then wt G L 0 else 0) = mrow G L c := by
  unfold mrow
  by_cases hL : Tame L
  · rw [col_prob G hL, col_prob G hL]
    have hne := col_ne G L
    by_cases h1 : c.val = col G L 1
    · rw [if_pos h1, if_pos h1, if_neg fun h0 => hne (h0.symm.trans h1), zero_add]
    · rw [if_neg h1, if_neg h1, add_zero]
  · simp only [wt_wild G hL, ite_self, add_zero]

/-- The kernel's first probability, its reciprocal of the denominator, and the two quotients. -/
def first (L : Fin 4 → EReal) : EReal := Ideal.div 1 (∑ j, expo L j)
def recip (L : Fin 4 → EReal) : EReal := Ideal.div 1 (first L + prob L (second L) + Ideal.ofBits .f32 0x33D6BF95#32)

theorem recip_eq {L : Fin 4 → EReal} (hL : Tame L) : recip L = Ideal.div 1 (den L) := by
  unfold recip first den
  rw [prob_top hL]

theorem recip_wild {L : Fin 4 → EReal} (hL : ¬ Tame L) : recip L = 0 := by
  unfold recip
  rw [prob_wild hL, EReal.add_bot, bot_add_eps, div_bot]

theorem first_quot (L : Fin 4 → EReal) : first L * recip L = Ideal.div (prob L (top L)) (den L) := by
  by_cases hL : Tame L
  · rw [recip_eq hL, Ideal.mul_one_div (den_ne hL), prob_top hL]
    rfl
  · rw [recip_wild hL, den_wild hL, div_bot, mul_zero]

theorem second_quot (L : Fin 4 → EReal) : prob L (second L) * recip L = Ideal.div (prob L (second L)) (den L) := by
  by_cases hL : Tame L
  · rw [recip_eq hL, Ideal.mul_one_div (den_ne hL)]
  · rw [recip_wild hL, den_wild hL, div_bot, mul_zero]

/-! ## The kernel's reading of a token -/

theorem fold_top (v : Fin (n + 1) → EReal) : Finset.univ.fold max ⊥ v = v (top v) :=
  (top_pick v).fold_max (fun _ _ => rfl) fun k hk => absurd trivial hk

theorem fold_top_index (v : Fin (n + 1) → EReal) (hn : n < 63) :
    Finset.univ.fold min ⊤ (fun k : Fin (n + 1) => if v (top v) ≤ v k then FloatOps.sitofp (F := Ideal) FTy.f32 (BitVec.ofNat 32 k.val)
      else Ideal.ofBits .f32 0x4E6E6B28#32) = (((top v).val : ℝ) : EReal) := by
  refine (top_pick v).fold_min _ (Ideal.ofBits .f32 0x4E6E6B28#32) (fun k => ?_) (fun k _ h => ?_) (fun k h => ?_)
  · rw [bits_billion, EReal.coe_le_coe_iff]
    have : k.val ≤ 1000000000 := by omega
    exact_mod_cast this
  · rw [if_pos h, sitofp_ofNat (by omega)]
  · rw [if_neg (h trivial)]

/-- The logits with the first pick masked. -/
def masked (v : Fin (n + 2) → EReal) (k : Fin (n + 2)) : EReal := if k = top v then ⊥ else v k

theorem fold_second (v : Fin (n + 2) → EReal) : Finset.univ.fold max ⊥ (masked v) = v (second v) :=
  (second_pick v).fold_max (fun k hk => if_neg hk) fun k hk => if_pos (not_not.1 hk)

theorem fold_second_index {v : Fin (n + 2) → EReal} (hv : v (second v) ≠ ⊥) (hn : n < 62) :
    Finset.univ.fold min ⊤ (fun k : Fin (n + 2) => if v (second v) ≤ masked v k then FloatOps.sitofp (F := Ideal) FTy.f32 (BitVec.ofNat 32 k.val)
      else Ideal.ofBits .f32 0x4E6E6B28#32) = (((second v).val : ℝ) : EReal) := by
  refine (second_pick v).fold_min _ (Ideal.ofBits .f32 0x4E6E6B28#32) (fun k => ?_) (fun k hk h => ?_) (fun k h => ?_)
  · rw [bits_billion, EReal.coe_le_coe_iff]
    have : k.val ≤ 1000000000 := by omega
    exact_mod_cast this
  · rw [if_pos (by rw [masked, if_neg hk]; exact h), sitofp_ofNat (by omega)]
  · refine if_neg fun g => ?_
    unfold masked at g
    by_cases hk : k = top v
    · rw [if_pos hk] at g
      exact hv (le_bot_iff.1 g)
    · rw [if_neg hk] at g
      exact h hk g

theorem index_eq_iff {a b : ℕ} : ((a : ℝ) : EReal) = ((b : ℝ) : EReal) ↔ a = b := by
  rw [EReal.coe_eq_coe_iff]; exact Nat.cast_inj

theorem column_eq_iff {c a b : ℕ} :
    ((c : ℝ) : EReal) = ((a : ℝ) : EReal) * Ideal.ofBits .f32 0x40800000#32 + ((b : ℝ) : EReal) ↔ c = a * 4 + b := by
  rw [bits_four, ← EReal.coe_mul, ← EReal.coe_add, EReal.coe_eq_coe_iff]
  constructor
  · intro h; exact_mod_cast h
  · rintro rfl; push_cast; rfl

end Router

end
-- ==== Proof.Tokens.lean ====
/- The logits of the 32768 tokens from the arguments, and the loss from the mask's column sums and the logits' squares. -/
module

public import proofs.«01_k».proof.Proof.Spec
public import Idealize.ShloMosaic.Lib.Pointwise

@[expose] public section

noncomputable section

namespace Router

open Idealize.ShloMosaic
open scoped BigOperators

variable (x : FVec Ideal ⟨3, ![4, 8192, 768]⟩ .f32) (wg : FVec Ideal ⟨2, ![16, 768]⟩ .f32) (we : FVec Ideal ⟨2, ![4, 768]⟩ .f32)

/-- Token `n`'s entry `k`: the batch and the position are its quotient and its remainder. -/
def tok (n : Fin 32768) (k : Fin 768) : EReal := x (ix3 ⟨n.val / 8192, by omega⟩ ⟨n.val % 8192, by omega⟩ k)

/-- The logits of the token's groups and of its experts. -/
def gl (n : Fin 32768) (e : Fin 16) : EReal := ∑ k, tok x n k * wg (ix2 e k)
def ll (n : Fin 32768) (e : Fin 4) : EReal := ∑ k, tok x n k * we (ix2 e k)

/-- The loss from the column sums and the two sums of squares. -/
def lossOf (u : Fin 64 → EReal) (p q : EReal) : EReal :=
  Ideal.ofBits FTy.f32 0x3A83126F#32 * (Ideal.div (∑ c, (u c - Ideal.div (∑ c, u c) (Ideal.ofBits FTy.f32 0x42800000#32))
      * (u c - Ideal.div (∑ c, u c) (Ideal.ofBits FTy.f32 0x42800000#32))) (Ideal.ofBits FTy.f32 0x42800000#32)
    + (Ideal.div p (Ideal.ofBits FTy.f32 0x49000000#32) + Ideal.div q (Ideal.ofBits FTy.f32 0x48000000#32)))

/-- The three results at an index. -/
def weightAt (n : Fin 32768) (i : Fin 2) : EReal := wt (gl x wg n) (ll x we n) i
def maskAt (n : Fin 32768) (c : Fin 64) : EReal := mrow (gl x wg n) (ll x we n) c

/-- The mask's column sums and the two sums of squares. -/
def colSum (c : Fin 64) : EReal := ∑ n, maskAt x wg we n c
def gSquares : EReal := ∑ n, ∑ e, gl x wg n e * gl x wg n e
def lSquares : EReal := ∑ n, ∑ e, ll x we n e * ll x we n e

def lossAt : EReal := lossOf (colSum x wg we) (gSquares x wg) (lSquares x we)

/-- Every entry of an array is a real. -/
def RealArr {s : Shape} (v : FVec Ideal s .f32) : Prop := ∀ i, ∃ r : ℝ, v i = (r : EReal)

theorem reals_dot {n K : ℕ} {a : Fin K → EReal} {b : Fin n → Fin K → EReal} (ha : ∀ k, ∃ r : ℝ, a k = (r : EReal))
    (hb : ∀ e k, ∃ r : ℝ, b e k = (r : EReal)) : Reals fun e => ∑ k, a k * b e k := by
  choose u hu using ha
  choose v hv using hb
  refine ⟨fun e => ∑ k, u k * v e k, fun e => ?_⟩
  rw [coe_sum]
  exact Finset.sum_congr rfl fun k _ => by rw [hu, hv, EReal.coe_mul]

variable {x wg}

theorem reals_gl (hx : RealArr x) (hg : RealArr wg) (n : Fin 32768) : Reals (gl x wg n) :=
  reals_dot (fun k => hx _) fun e k => hg _

end Router

end
-- ==== Proof.Finite.lean ====
/- The precondition: the absolute values in the tokens and in the group weights are below infinity, so the entries are
   reals. -/
module

public import proofs.«01_k».proof.Pre_finite
public import proofs.«01_k».proof.Proof.Tokens
public import Idealize.ShloMosaic.Lib.ReduceAll

@[expose] public section

noncomputable section

namespace Cert.Pre_finite

open Idealize.ShloMosaic
open Router

theorem facts : Facts := by
  constructor <;> decide

theorem real_of_abs {x : EReal} (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

instance : Subsingleton S_.Idx := ⟨fun a b => funext fun q => q.elim0⟩

theorem real_of_all {s : Shape} {axes : List (Fin s.rank)} (x : FVec Ideal s .f32) (hb : S_.BroadcastsInDim s (![] : Fin 0 → Fin s.rank)) (hr : s.ReducesTo axes S_)
    (hu : 0 < S_.numel) (j : S_.Idx) (e : Host.reduce IntOp.andi (cmpf .olt (Host.absf x) (broadcastInDim s ![] hb (constant S_ .f32 0x7F800000#32)))
      (constantI S_ 1 1#1) hr hu j = 1#1) : RealArr x := fun i => by
  have h := Host.reduce_andi_all _ _ hr hu j e i
  refine real_of_abs (Eq.trans ?_ h)
  rw [← bits_inf]
  rfl

theorem reals_of_fn [Facts] (x : FVec Ideal S4x8192x768 .f32) (g : FVec Ideal S16x768 .f32) (e : FVec Ideal S4x768 .f32)
    (h : fn (F := Ideal) x g e = fun _ => 1#1) : RealArr x ∧ RealArr g := by
  have h0 := congrFun h ix0
  dsimp only [fn] at h0
  have both : ∀ a b : BitVec 1, IntOp.andi a b = 1#1 → a = 1#1 ∧ b = 1#1 := by decide
  obtain ⟨h1, h2⟩ := both _ _ h0
  exact ⟨real_of_all x _ _ _ _ h1, real_of_all g _ _ _ _ h2⟩

end Cert.Pre_finite

end
-- ==== Proof.KerRead.lean ====
/- The kernel's body on one block of 4096 tokens: at lane `t` it stores the token's weights, its row of the mask, and
   adds the block's parts of the three running sums. -/
module

public import proofs.«01_k».proof.Proof.Gen.KernelIdeal.Skeleton
public import proofs.«01_k».proof.Proof.Tokens
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen
open Router

variable (W : FVec Ideal S32x768 .f32) (X : FVec Ideal S4096x768 .f32)

/-- The logits of lane `t`'s groups and experts. -/
def kG (t : Fin 4096) (e : Fin 16) : EReal := k0_pay4 (F := Ideal) W X (ix2 e t)
def kL (t : Fin 4096) (e : Fin 4) : EReal := k0_pay5 (F := Ideal) W X (ix2 e t)

theorem kG_eq (t : Fin 4096) (e : Fin 16) : kG W X t e = ∑ k : Fin 768, W (ix2 ⟨e.val, by omega⟩ k) * X (ix2 t k) := by
  unfold kG
  pointwise [k0_pay4, k0_pay3]
theorem kL_eq (t : Fin 4096) (e : Fin 4) : kL W X t e = ∑ k : Fin 768, W (ix2 ⟨16 + e.val, by omega⟩ k) * X (ix2 t k) := by
  unfold kL
  pointwise [k0_pay5, k0_pay3]

theorem pay6_at (t : Fin 4096) : k0_pay6 (F := Ideal) W X (ix2 0 t) = kG W X t (top (kG W X t)) := by
  rw [← fold_top (kG W X t), ← bits_neg_inf]
  pointwise [k0_pay6]
  rfl

theorem pay10_at (t : Fin 4096) : k0_pay10 (F := Ideal) W X (ix2 0 t) = kL W X t (top (kL W X t)) := by
  rw [← fold_top (kL W X t), ← bits_neg_inf]
  pointwise [k0_pay10]
  rfl

theorem pay7_at (t : Fin 4096) : k0_pay7 (F := Ideal) W X (ix2 0 t) = (((top (kG W X t)).val : ℝ) : EReal) := by
  rw [← fold_top_index _ (by omega), ← pay6_at, ← bits_inf]
  pointwise [k0_pay7]
  rfl

theorem pay11_at (t : Fin 4096) : k0_pay11 (F := Ideal) W X (ix2 0 t) = (((top (kL W X t)).val : ℝ) : EReal) := by
  rw [← fold_top_index _ (by omega), ← pay10_at, ← bits_inf]
  pointwise [k0_pay11, k0_pay9]
  rfl

theorem pay12_at (e : Fin 4) (t : Fin 4096) : k0_pay12 (F := Ideal) W X (ix2 e t) = masked (kL W X t) e := by
  have h : (FloatOps.sitofp (F := Ideal) FTy.f32 (BitVec.ofNat 32 e.val) = k0_pay11 (F := Ideal) W X (ix2 0 t)) ↔ e = top (kL W X t) := by
    rw [pay11_at, sitofp_ofNat (by omega), index_eq_iff, Fin.ext_iff]
  have hm : Named.named (F := Ideal) (φ := .f32) κ "mask" 0xF149F2CA#32 = ⊥ :=
    IdealRules.named_const.ideal_named_scalar _ _ _ _ rfl
  unfold masked
  rw [← hm]
  pointwise [k0_pay12, k0_pay9]
  exact if_congr h rfl rfl

theorem pay13_at (t : Fin 4096) : k0_pay13 (F := Ideal) W X (ix2 0 t) = kL W X t (second (kL W X t)) := by
  rw [← fold_second (kL W X t), ← bits_neg_inf, ← funext fun e => pay12_at W X e t]
  pointwise [k0_pay13]

variable {W X}

theorem pay8_at (t : Fin 4096) (hG : Reals (kG W X t)) : k0_pay8 (F := Ideal) W X (ix2 0 t) = prob (kG W X t) (top (kG W X t)) := by
  rw [prob_top hG.tame]
  unfold expo
  rw [← pay6_at]
  pointwise [k0_pay8]
  rfl

theorem pay17_at (t : Fin 4096) :
    k0_pay17 (F := Ideal) (k0_pay5 W X) (k0_pay10 W X) (ix2 0 t) = first (kL W X t) := by
  unfold first expo
  rw [← pay10_at]
  pointwise [k0_pay17, k0_pay16]
  rfl

theorem pay18_at (t : Fin 4096) :
    k0_pay18 (F := Ideal) (k0_pay5 W X) (k0_pay10 W X) (k0_pay13 W X) (ix2 0 t) = prob (kL W X t) (second (kL W X t)) := by
  unfold prob expo
  rw [← pay10_at, ← pay13_at]
  pointwise [k0_pay18, k0_pay16]
  rfl

theorem pay19_at (t : Fin 4096) :
    k0_pay19 (F := Ideal) (k0_pay5 W X) (k0_pay10 W X) (k0_pay13 W X) (ix2 0 t) = recip (kL W X t) := by
  unfold recip
  rw [← pay17_at t, ← pay18_at]
  pointwise [k0_pay19]

theorem pay20_at (t : Fin 4096) (hG : Reals (kG W X t)) :
    k0_pay20 (F := Ideal) (k0_pay5 W X) (k0_pay8 W X) (k0_pay10 W X) (k0_pay13 W X) (ix2 0 t) = wt (kG W X t) (kL W X t) 0 := by
  unfold wt expert
  rw [if_pos rfl, ← first_quot, ← pay19_at t, ← pay17_at t, ← pay8_at t hG]
  pointwise [k0_pay20]

theorem pay21_at (t : Fin 4096) (hG : Reals (kG W X t)) :
    k0_pay21 (F := Ideal) (k0_pay5 W X) (k0_pay8 W X) (k0_pay10 W X) (k0_pay13 W X) (ix2 0 t) = wt (kG W X t) (kL W X t) 1 := by
  unfold wt expert
  rw [if_neg (by decide), ← second_quot, ← pay19_at t, ← pay18_at t, ← pay8_at t hG]
  pointwise [k0_pay21]

/-- The index of the second expert as the kernel finds it. -/
def secondIx (W : FVec Ideal S32x768 .f32) (X : FVec Ideal S4096x768 .f32) (t : Fin 4096) : EReal :=
  Finset.univ.fold min (Ideal.ofBits .f32 0x7F800000#32) (fun k : Fin 4 => if k0_pay13 (F := Ideal) W X (ix2 0 t) ≤ k0_pay12 (F := Ideal) W X (ix2 k t)
      then k0_pay9 (F := Ideal) (ix2 k t) else Ideal.ofBits .f32 0x4E6E6B28#32)

theorem second_at (t : Fin 4096) (hL : kL W X t (second (kL W X t)) ≠ ⊥) : secondIx W X t = (((second (kL W X t)).val : ℝ) : EReal) := by
  have h9 : ∀ k : Fin 4, k0_pay9 (F := Ideal) (ix2 k t) = FloatOps.sitofp (F := Ideal) FTy.f32 (BitVec.ofNat 32 k.val) := fun k => by
    pointwise [k0_pay9]
  unfold secondIx
  simp only [pay12_at, pay13_at, h9, bits_inf]
  exact fold_second_index hL (by omega)

/-- The second select of the mask: where the index may differ the weight is zero. -/
theorem select_second (c : Fin 64) (t : Fin 4096) :
    (if FloatOps.sitofp (F := Ideal) FTy.f32 (BitVec.ofNat 32 c.val) = k0_pay7 (F := Ideal) W X (ix2 0 t) * Ideal.ofBits .f32 0x40800000#32
      + secondIx W X t then wt (kG W X t) (kL W X t) 1 else 0)
      = if c.val = col (kG W X t) (kL W X t) 1 then wt (kG W X t) (kL W X t) 1 else 0 := by
  by_cases hL : kL W X t (second (kL W X t)) = ⊥
  · rw [wt_second_bot _ hL, ite_self, ite_self]
  · refine if_congr ?_ rfl rfl
    rw [second_at t hL, pay7_at, sitofp_ofNat (by omega), column_eq_iff]
    rfl

theorem pay22_at (c : Fin 64) (t : Fin 4096) (hG : Reals (kG W X t)) :
    k0_pay22 (F := Ideal) (k0_pay5 W X) (k0_pay7 W X) (k0_pay8 W X) k0_pay9 (k0_pay10 W X) (k0_pay11 W X) (k0_pay13 W X)
      (k0_pay14 (F := Ideal) W X) k0_pay15 (ix2 c t) = mrow (kG W X t) (kL W X t) c := by
  have h0 : (FloatOps.sitofp (F := Ideal) FTy.f32 (BitVec.ofNat 32 c.val) = k0_pay7 (F := Ideal) W X (ix2 0 t) * Ideal.ofBits .f32 0x40800000#32
      + k0_pay11 (F := Ideal) W X (ix2 0 t)) ↔ c.val = col (kG W X t) (kL W X t) 0 := by
    rw [pay7_at, pay11_at, sitofp_ofNat (by omega), column_eq_iff]
    rfl
  unfold mrow
  rw [← if_congr h0 rfl rfl, ← select_second c t, ← pay20_at t hG, ← pay21_at t hG]
  unfold secondIx
  pointwise [k0_pay22, k0_pay14, k0_pay15]

/-! ## What a point stores -/

theorem mask_at (c : Fin 64) (t : Fin 4096) (hG : Reals (kG W X t)) :
    k0_pay23 (F := Ideal) (k0_pay5 W X) (k0_pay7 W X) (k0_pay8 W X) k0_pay9 (k0_pay10 W X) (k0_pay11 W X) (k0_pay13 W X)
      (k0_pay14 (F := Ideal) W X) k0_pay15 (ix2 t c) = mrow (kG W X t) (kL W X t) c := by
  rw [← pay22_at c t hG]
  pointwise [k0_pay23]

theorem weights_at (i : Fin 2) (t : Fin 4096) (hG : Reals (kG W X t)) :
    k0_pay25 (F := Ideal) (k0_pay20 (k0_pay5 W X) (k0_pay8 W X) (k0_pay10 W X) (k0_pay13 W X))
      (k0_pay21 (k0_pay5 W X) (k0_pay8 W X) (k0_pay10 W X) (k0_pay13 W X)) k0_pay24 (Scalar.ofBits .f32 0x00000000#32) (ix2 i t)
      = wt (kG W X t) (kL W X t) i := by
  have h : ∀ i : Fin 2, (FloatOps.sitofp (F := Ideal) FTy.f32 (BitVec.ofNat 32 i.val) = 0) ↔ i = 0 := by
    intro i
    rw [sitofp_ofNat (by omega), show (0 : EReal) = (((0 : ℕ) : ℝ) : EReal) by simp, index_eq_iff, Fin.ext_iff]
    rfl
  have key : wt (kG W X t) (kL W X t) i = if i = 0 then wt (kG W X t) (kL W X t) 0 else wt (kG W X t) (kL W X t) 1 := by
    fin_cases i <;> rfl
  rw [key, ← if_congr (h i) rfl rfl, ← pay20_at t hG, ← pay21_at t hG]
  pointwise [k0_pay25, k0_pay24]

/-! ## What a point adds to the running sums -/

theorem colsum_at (a : FVec Ideal S64x1 .f32) (c : Fin 64) (hG : ∀ t, Reals (kG W X t)) :
    k0_pay29 (F := Ideal) (k0_pay22 (k0_pay5 W X) (k0_pay7 W X) (k0_pay8 W X) k0_pay9 (k0_pay10 W X) (k0_pay11 W X) (k0_pay13 W X)
      (k0_pay14 (F := Ideal) W X) k0_pay15) a (ix2 c 0) = a (ix2 c 0) + ∑ t, mrow (kG W X t) (kL W X t) c := by
  rw [← Finset.sum_congr rfl fun t _ => pay22_at c t (hG t)]
  pointwise [k0_pay29]

theorem gsq_at (a : FVec Ideal S1x1 .f32) :
    k0_pay30 (F := Ideal) (k0_pay4 W X) a (ix2 0 0) = a (ix2 0 0) + ∑ e, ∑ t, kG W X t e * kG W X t e := by
  unfold kG
  pointwise [k0_pay30]

theorem lsq_at (a : FVec Ideal S1x1 .f32) :
    k0_pay1 (k0_pay31 (F := Ideal) (k0_pay5 W X) a) (ix2 0 0) = a (ix2 0 0) + ∑ e, ∑ t, kL W X t e * kL W X t e := by
  unfold kL
  pointwise [k0_pay31, k0_pay1]

theorem loss_at (a : FVec Ideal S64x1 .f32) (b c : FVec Ideal S1x1 .f32) :
    k0_pay2 (F := Ideal) a b c (ix2 0 0) = lossOf (fun c => a (ix2 c 0)) (b (ix2 0 0)) (c (ix2 0 0)) := by
  unfold lossOf
  pointwise [k0_pay2]
  simp only [Finset.univ_unique, Finset.sum_singleton]

end Cert.KernelIdeal.Value

end
-- ==== Proof.KerEntry.lean ====
/- What the grid's points read: the two weight matrices packed into one of 32 rows, and the tokens in blocks of 4096. -/
module

public import proofs.«01_k».proof.Proof.Gen.KernelIdeal.Frame
public import proofs.«01_k».proof.Proof.KerRead
public import Idealize.ShloMosaic.Lib.Pipeline.ValueKit
public import Idealize.ShloMosaic.Lib.Pointwise
public import Idealize.ShloMosaic.Lib.Claim
public import Idealize.ShloMosaic.Lib.Routing.OpsPair
public import Idealize.ShloMosaic.Lib.Routing.OpsSet

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen
open Router

/-- A group weight of row `a` lands at row `start + a`. -/
theorem lands_16 (idx : IVec S1 32) (a : Fin 16) (b : Fin 768) (r : Fin 32) (k : Fin 768) :
    scatter_S32x768_S1_S16x768_01_n_0_0.resultIdx? (ix2 a b) idx = some (ix2 r k)
      ↔ (idx (ix1 0)).toInt + a.val = r.val ∧ b.val = k.val := by
  have h0 : scatter_S32x768_S1_S16x768_01_n_0_0.start (ix2 a b) idx 0 = (idx (ix1 0)).toInt := by
    unfold ScatterDims.start
    rw [dif_pos (by decide)]
    congr 2
    funext q
    match q with
    | ⟨0, _⟩ => rfl
  have h1 : scatter_S32x768_S1_S16x768_01_n_0_0.start (ix2 a b) idx 1 = 0 := by
    unfold ScatterDims.start
    rw [dif_neg (by decide)]
  have w0 : scatter_S32x768_S1_S16x768_01_n_0_0.window (ix2 a b) 0 = a.val := by
    unfold ScatterDims.window
    rw [dif_pos (by decide)]
    rfl
  have w1 : scatter_S32x768_S1_S16x768_01_n_0_0.window (ix2 a b) 1 = b.val := by
    unfold ScatterDims.window
    rw [dif_pos (by decide)]
    rfl
  refine (Routing.resultIdx?_ix2 _ _ _ r k).trans ?_
  rw [h0, h1, w0, w1]
  omega

theorem lands_4 (idx : IVec S1 32) (a : Fin 4) (b : Fin 768) (r : Fin 32) (k : Fin 768) :
    scatter_S32x768_S1_S4x768_01_n_0_0.resultIdx? (ix2 a b) idx = some (ix2 r k)
      ↔ (idx (ix1 0)).toInt + a.val = r.val ∧ b.val = k.val := by
  have h0 : scatter_S32x768_S1_S4x768_01_n_0_0.start (ix2 a b) idx 0 = (idx (ix1 0)).toInt := by
    unfold ScatterDims.start
    rw [dif_pos (by decide)]
    congr 2
    funext q
    match q with
    | ⟨0, _⟩ => rfl
  have h1 : scatter_S32x768_S1_S4x768_01_n_0_0.start (ix2 a b) idx 1 = 0 := by
    unfold ScatterDims.start
    rw [dif_neg (by decide)]
  have w0 : scatter_S32x768_S1_S4x768_01_n_0_0.window (ix2 a b) 0 = a.val := by
    unfold ScatterDims.window
    rw [dif_pos (by decide)]
    rfl
  have w1 : scatter_S32x768_S1_S4x768_01_n_0_0.window (ix2 a b) 1 = b.val := by
    unfold ScatterDims.window
    rw [dif_pos (by decide)]
    rfl
  refine (Routing.resultIdx?_ix2 _ _ _ r k).trans ?_
  rw [h0, h1, w0, w1]
  omega

/-- The two weight matrices in one. -/
def packed (G : FVec Ideal S16x768 .f32) (E : FVec Ideal S4x768 .f32) : FVec Ideal S32x768 .f32 :=
  Host.scatter scatter_S32x768_S1_S4x768_01_n_0_0 (fun _ b => b)
    (Host.scatter scatter_S32x768_S1_S16x768_01_n_0_0 (fun _ b => b)
      (broadcastInDim S32x768 ![] bcast_S_S32x768 (constant S_ .f32 0x00000000#32))
      (broadcastInDim S1 ![] bcast_S_S1 (constantI S_ 32 0#32)) G)
    (broadcastInDim S1 ![] bcast_S_S1 (constantI S_ 32 16#32)) E

theorem at_zero : ((broadcastInDim S1 ![] bcast_S_S1 (constantI S_ 32 0#32) : IVec S1 32) (ix1 0)).toInt = 0 := rfl
theorem at_sixteen : ((broadcastInDim S1 ![] bcast_S_S1 (constantI S_ 32 16#32) : IVec S1 32) (ix1 0)).toInt = 16 := rfl

theorem pair_16 (k : S16x768.Idx) : ∃ (a : Fin 16) (b : Fin 768), k = ix2 a b :=
  ⟨k 0, k 1, funext fun q => by match q with | ⟨0, _⟩ => rfl | ⟨1, _⟩ => rfl⟩
theorem pair_4 (k : S4x768.Idx) : ∃ (a : Fin 4) (b : Fin 768), k = ix2 a b :=
  ⟨k 0, k 1, funext fun q => by match q with | ⟨0, _⟩ => rfl | ⟨1, _⟩ => rfl⟩

/-- Its first 16 rows are the groups' weights, -/
theorem packed_group (G : FVec Ideal S16x768 .f32) (E : FVec Ideal S4x768 .f32) (e : Fin 16) (r : Fin 32) (hr : r.val = e.val) (k : Fin 768) :
    packed G E (ix2 r k) = G (ix2 e k) := by
  unfold packed
  refine (Routing.scatter_set_miss _ _ _ _ _ fun j g => ?_).trans
    (Routing.scatter_set_hit _ _ _ _ _ _ (fun j g => ?_) (ix2 e k) ((lands_16 _ _ _ _ _).2 ⟨?_, rfl⟩))
  · obtain ⟨a, b, rfl⟩ := pair_4 j
    have := ((lands_4 _ _ _ _ _).1 g).1
    rw [at_sixteen] at this
    omega
  · obtain ⟨a, b, rfl⟩ := pair_16 j
    have h := (lands_16 _ _ _ _ _).1 g
    rw [at_zero] at h
    have ha : a = e := Fin.ext (by omega)
    have hb : b = k := Fin.ext h.2
    rw [ha, hb]
  · rw [at_zero]
    omega

/-- and its next 4 the experts'. -/
theorem packed_expert (G : FVec Ideal S16x768 .f32) (E : FVec Ideal S4x768 .f32) (e : Fin 4) (r : Fin 32) (hr : r.val = 16 + e.val) (k : Fin 768) :
    packed G E (ix2 r k) = E (ix2 e k) := by
  unfold packed
  refine Routing.scatter_set_hit _ _ _ _ _ _ (fun j g => ?_) (ix2 e k) ((lands_4 _ _ _ _ _).2 ⟨?_, rfl⟩)
  · obtain ⟨a, b, rfl⟩ := pair_4 j
    have h := (lands_4 _ _ _ _ _).1 g
    rw [at_sixteen] at h
    have ha : a = e := Fin.ext (by omega)
    have hb : b = k := Fin.ext h.2
    rw [ha, hb]
  · rw [at_sixteen]
    omega

variable (m : (ℓ : Loc nD τ sig) → Buf (Elt Ideal) ℓ)

/-- The arguments. -/
abbrev aX (c : Dev nD) : FVec Ideal S4x8192x768 .f32 := m ((c : Thread nD τ).loc main_arg0)
abbrev aG (c : Dev nD) : FVec Ideal S16x768 .f32 := m ((c : Thread nD τ).loc main_arg1)
abbrev aE (c : Dev nD) : FVec Ideal S4x768 .f32 := m ((c : Thread nD τ).loc main_arg2)

theorem idx : ∀ t : Fin cfg0.N, win0_0.index t = ![t.val, 0] ∧ win0_1.index t = ![0, 0] ∧ win0_2.index t = ![0, t.val]
    ∧ win0_3.index t = ![t.val, 0] ∧ win0_4.index t = ![0, 0] :=
  (by decide +kernel : ∀ t : Fin grid0.N, _)

/-- The blocks of the weights and of the tokens at a point. -/
abbrev bW (c : Dev nD) (t : Fin cfg0.N) : FVec Ideal S32x768 .f32 := iblk m c 1 t
abbrev bX (c : Dev nD) (t : Fin cfg0.N) : FVec Ideal S4096x768 .f32 := iblk m c 0 t

theorem entry_w (c : Dev nD) : V m c main_call0_v5 = packed (aG m c) (aE m c) := by
  change StableHlo.after hostOps0 (fun b => m (c, b)) (Proc.devRef .tc main_call0_v5) = _
  after_results
  simp only [StableHlo.TRef.ofBuf, StableHlo.TRef.toBuf, cast_cast, cast_eq]
  unfold packed
  with_reducible rfl

theorem entry_x (c : Dev nD) : V m c main_call0_v0 = shapeCast S32768x768 (aX m c) shapeCasts_S4x8192x768_S32768x768 := by
  change StableHlo.after hostOps0 (fun b => m (c, b)) (Proc.devRef .tc main_call0_v0) = _
  after_results
  rfl

theorem bW_at (c : Dev nD) (t : Fin cfg0.N) : bW m c t = packed (aG m c) (aE m c) := by
  rw [← entry_w m c]
  blk_ext! [iblk, idx t]

/-- Lane `l` of point `t` is token `4096 t + l`. -/
def lane (t : Fin cfg0.N) (l : Fin 4096) : Fin 32768 :=
  ⟨t.val * 4096 + l.val, by have := lt_of_lt_of_eq t.isLt (show cfg0.N = 8 from N_0); omega⟩

theorem cast_at (X : FVec Ideal S4x8192x768 .f32) (n : Fin 32768) (k : Fin 768) :
    shapeCast S32768x768 X shapeCasts_S4x8192x768_S32768x768 (ix2 n k) = tok X n k := by
  unfold tok
  pointwise []
  blk_ext

theorem bX_at (c : Dev nD) (t : Fin cfg0.N) (l : Fin 4096) (k : Fin 768) : bX m c t (ix2 l k) = tok (aX m c) (lane t l) k := by
  rw [← cast_at, ← entry_x m c]
  blk_ext! [iblk, idx t, lane]

/-- So its logits are that token's. -/
theorem kG_tok (c : Dev nD) (t : Fin cfg0.N) (l : Fin 4096) : kG (bW m c t) (bX m c t) l = gl (aX m c) (aG m c) (lane t l) := by
  funext e
  rw [kG_eq]
  unfold gl
  refine Finset.sum_congr rfl fun k _ => ?_
  rw [bX_at, bW_at, packed_group _ _ e _ rfl, mul_comm]

theorem kL_tok (c : Dev nD) (t : Fin cfg0.N) (l : Fin 4096) : kL (bW m c t) (bX m c t) l = ll (aX m c) (aE m c) (lane t l) := by
  funext e
  rw [kL_eq]
  unfold ll
  refine Finset.sum_congr rfl fun k _ => ?_
  rw [bX_at, bW_at, packed_expert _ _ e _ rfl, mul_comm]

end Cert.KernelIdeal.Value

end
-- ==== Proof.KerPoint.lean ====
/- What the body leaves at a point, over its tokens: the weights, the mask, and the running sums. -/
module

public import proofs.«01_k».proof.Proof.KerEntry
public import Idealize.ShloMosaic.Lib.Pipeline.ReadBack

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen
open Router

variable (m : (ℓ : Loc nD τ sig) → Buf (Elt Ideal) ℓ)

/-- The tokens and the group weights are real everywhere. -/
def RealArgs (c : Dev nD) : Prop := RealArr (aX m c) ∧ RealArr (aG m c)

variable {m} {c : Dev nD}

theorem realG (h : RealArgs m c) (t : Fin cfg0.N) (l : Fin 4096) : Reals (kG (bW m c t) (bX m c t) l) := by
  rw [kG_tok]
  exact reals_gl h.1 h.2 _

/-- The cases of a point. -/
theorem cases_point (t : Fin cfg0.N) : (t.val % 8 = 0 ∧ ¬t.val % 8 = 7) ∨ (¬t.val % 8 = 0 ∧ ¬t.val % 8 = 7) ∨ (¬t.val % 8 = 0 ∧ t.val % 8 = 7) := by
  omega

theorem weights_pay (h : RealArgs m c) (t : Fin cfg0.N) (l : Fin 4096) (i : Fin 2) :
    k0_pay25 (F := Ideal) (k0_pay20 (k0_pay5 (bW m c t) (bX m c t)) (k0_pay8 (bW m c t) (bX m c t)) (k0_pay10 (bW m c t) (bX m c t)) (k0_pay13 (bW m c t) (bX m c t)))
      (k0_pay21 (k0_pay5 (bW m c t) (bX m c t)) (k0_pay8 (bW m c t) (bX m c t)) (k0_pay10 (bW m c t) (bX m c t)) (k0_pay13 (bW m c t) (bX m c t))) k0_pay24 (Scalar.ofBits .f32 0) (ix2 i l)
      = weightAt (aX m c) (aG m c) (aE m c) (lane t l) i := by
  refine (weights_at i l (realG h t l)).trans ?_
  rw [kG_tok, kL_tok]
  rfl

theorem fw_after (h : RealArgs m c) (t : Fin cfg0.N) (l : Fin 4096) (i : Fin 2) :
    (outsAt0 m c t.val t.isLt).1 (ix2 i l) = weightAt (aX m c) (aG m c) (aE m c) (lane t l) i := by
  rcases cases_point t with ⟨h0, h1⟩ | ⟨h0, h1⟩ | ⟨h0, h1⟩
  · rw [outsAt0_A m c t h0 h1]
    frame_out
    exact weights_pay h t l i
  · rw [outsAt0_B m c t h0 h1]
    frame_out
    exact weights_pay h t l i
  · rw [outsAt0_C m c t h0 h1]
    frame_out
    exact weights_pay h t l i

theorem mask_pay (h : RealArgs m c) (t : Fin cfg0.N) (l : Fin 4096) (e : Fin 64) :
    k0_pay23 (F := Ideal) (k0_pay5 (bW m c t) (bX m c t)) (k0_pay7 (bW m c t) (bX m c t)) (k0_pay8 (bW m c t) (bX m c t)) k0_pay9
      (k0_pay10 (bW m c t) (bX m c t)) (k0_pay11 (bW m c t) (bX m c t)) (k0_pay13 (bW m c t) (bX m c t)) (k0_pay14 (F := Ideal) (bW m c t) (bX m c t)) k0_pay15 (ix2 l e)
      = maskAt (aX m c) (aG m c) (aE m c) (lane t l) e := by
  refine (mask_at e l (realG h t l)).trans ?_
  rw [kG_tok, kL_tok]
  rfl

theorem mask_after (h : RealArgs m c) (t : Fin cfg0.N) (l : Fin 4096) (e : Fin 64) :
    (outsAt0 m c t.val t.isLt).2.1 (ix2 l e) = maskAt (aX m c) (aG m c) (aE m c) (lane t l) e := by
  rcases cases_point t with ⟨h0, h1⟩ | ⟨h0, h1⟩ | ⟨h0, h1⟩
  · rw [outsAt0_A m c t h0 h1]
    frame_out
    exact mask_pay h t l e
  · rw [outsAt0_B m c t h0 h1]
    frame_out
    exact mask_pay h t l e
  · rw [outsAt0_C m c t h0 h1]
    frame_out
    exact mask_pay h t l e

/-- The three running sums after a point. -/
def sCol (m : (ℓ : Loc nD τ sig) → Buf (Elt Ideal) ℓ) (c : Dev nD) (n : ℕ) (hn : n < cfg0.N) (e : Fin 64) : EReal := (outsAt0 m c n hn).2.2.2.1 (ix2 e 0)
def sG (m : (ℓ : Loc nD τ sig) → Buf (Elt Ideal) ℓ) (c : Dev nD) (n : ℕ) (hn : n < cfg0.N) (_ : Fin 1) : EReal := (outsAt0 m c n hn).2.2.2.2.1 (ix2 0 0)
def sL (m : (ℓ : Loc nD τ sig) → Buf (Elt Ideal) ℓ) (c : Dev nD) (n : ℕ) (hn : n < cfg0.N) (_ : Fin 1) : EReal := (outsAt0 m c n hn).2.2.2.2.2 (ix2 0 0)

/-- A point's part of each. -/
def partCol (m : (ℓ : Loc nD τ sig) → Buf (Elt Ideal) ℓ) (c : Dev nD) (t : Fin cfg0.N) (e : Fin 64) : EReal := ∑ l, maskAt (aX m c) (aG m c) (aE m c) (lane t l) e
def partG (m : (ℓ : Loc nD τ sig) → Buf (Elt Ideal) ℓ) (c : Dev nD) (t : Fin cfg0.N) (_ : Fin 1) : EReal :=
  ∑ e, ∑ l, gl (aX m c) (aG m c) (lane t l) e * gl (aX m c) (aG m c) (lane t l) e
def partL (m : (ℓ : Loc nD τ sig) → Buf (Elt Ideal) ℓ) (c : Dev nD) (t : Fin cfg0.N) (_ : Fin 1) : EReal :=
  ∑ e, ∑ l, ll (aX m c) (aE m c) (lane t l) e * ll (aX m c) (aE m c) (lane t l) e

theorem col_pay (h : RealArgs m c) (t : Fin cfg0.N) (a : FVec Ideal S64x1 .f32) (e : Fin 64) :
    k0_pay29 (F := Ideal) (k0_pay22 (k0_pay5 (bW m c t) (bX m c t)) (k0_pay7 (bW m c t) (bX m c t)) (k0_pay8 (bW m c t) (bX m c t)) k0_pay9
      (k0_pay10 (bW m c t) (bX m c t)) (k0_pay11 (bW m c t) (bX m c t)) (k0_pay13 (bW m c t) (bX m c t)) (k0_pay14 (F := Ideal) (bW m c t) (bX m c t)) k0_pay15) a (ix2 e 0)
      = a (ix2 e 0) + partCol m c t e := by
  refine (colsum_at a e (realG h t)).trans ?_
  simp only [kG_tok, kL_tok]
  rfl

theorem g_pay (t : Fin cfg0.N) (a : FVec Ideal S1x1 .f32) :
    k0_pay30 (F := Ideal) (k0_pay4 (bW m c t) (bX m c t)) a (ix2 0 0) = a (ix2 0 0) + partG m c t 0 := by
  refine (gsq_at a).trans ?_
  simp only [kG_tok]
  rfl

theorem l_pay (t : Fin cfg0.N) (a : FVec Ideal S1x1 .f32) :
    k0_pay1 (k0_pay31 (F := Ideal) (k0_pay5 (bW m c t) (bX m c t)) a) (ix2 0 0) = a (ix2 0 0) + partL m c t 0 := by
  refine (lsq_at a).trans ?_
  simp only [kL_tok]
  rfl

theorem zero_col (e : Fin 64) : k0_pay26 (F := Ideal) (ix2 e 0) = (0 : EReal) := by
  pointwise [k0_pay26]
theorem zero_g : k0_pay27 (F := Ideal) (ix2 0 0) = (0 : EReal) := by
  pointwise [k0_pay27]
theorem zero_l : k0_pay28 (F := Ideal) (ix2 0 0) = (0 : EReal) := by
  pointwise [k0_pay28]

theorem col_first (h : RealArgs m c) (t : Fin cfg0.N) (h0 : t.val % 8 = 0) (e : Fin 64) : sCol m c t.val t.isLt e = 0 + partCol m c t e := by
  unfold sCol
  rw [outsAt0_A m c t h0 (by omega)]
  frame_out
  refine (col_pay h t _ e).trans ?_
  rw [zero_col]

theorem col_next (h : RealArgs m c) (t : Fin cfg0.N) (h0 : ¬t.val % 8 = 0) (e : Fin 64) :
    sCol m c t.val t.isLt e = sCol m c (t.val - 1) (Nat.lt_of_le_of_lt (Nat.sub_le _ _) t.isLt) e + partCol m c t e := by
  unfold sCol
  by_cases h1 : t.val % 8 = 7
  · rw [outsAt0_C m c t h0 h1]
    frame_out
    simp only [read_unread_whole]
    exact col_pay h t _ e
  · rw [outsAt0_B m c t h0 h1]
    frame_out
    simp only [read_unread_whole]
    exact col_pay h t _ e

theorem g_first (t : Fin cfg0.N) (h0 : t.val % 8 = 0) (e : Fin 1) : sG m c t.val t.isLt e = 0 + partG m c t e := by
  unfold sG
  rw [outsAt0_A m c t h0 (by omega)]
  frame_out
  refine (g_pay t _).trans ?_
  rw [zero_g]
  rfl

theorem g_next (t : Fin cfg0.N) (h0 : ¬t.val % 8 = 0) (e : Fin 1) :
    sG m c t.val t.isLt e = sG m c (t.val - 1) (Nat.lt_of_le_of_lt (Nat.sub_le _ _) t.isLt) e + partG m c t e := by
  unfold sG
  by_cases h1 : t.val % 8 = 7
  · rw [outsAt0_C m c t h0 h1]
    frame_out
    simp only [read_unread_whole]
    exact g_pay t _
  · rw [outsAt0_B m c t h0 h1]
    frame_out
    simp only [read_unread_whole]
    exact g_pay t _

theorem l_first (t : Fin cfg0.N) (h0 : t.val % 8 = 0) (e : Fin 1) : sL m c t.val t.isLt e = 0 + partL m c t e := by
  unfold sL
  rw [outsAt0_A m c t h0 (by omega)]
  frame_out
  refine (l_pay t _).trans ?_
  rw [zero_l]
  rfl

theorem l_next (t : Fin cfg0.N) (h0 : ¬t.val % 8 = 0) (e : Fin 1) :
    sL m c t.val t.isLt e = sL m c (t.val - 1) (Nat.lt_of_le_of_lt (Nat.sub_le _ _) t.isLt) e + partL m c t e := by
  unfold sL
  by_cases h1 : t.val % 8 = 7
  · rw [outsAt0_C m c t h0 h1]
    frame_out
    simp only [read_unread_whole]
    exact l_pay t _
  · rw [outsAt0_B m c t h0 h1]
    frame_out
    simp only [read_unread_whole]
    exact l_pay t _

/-- The parts of all points are all tokens'. -/
theorem all_tokens (f : Fin 32768 → EReal) : ∑ t : Fin cfg0.N, ∑ l : Fin 4096, f (lane t l) = ∑ n, f n :=
  Fin.sum_mul_add_fin cfg0.N 4096 f (by rw [show cfg0.N = 8 from N_0])

theorem col_last (h : RealArgs m c) (t : Fin cfg0.N) (ht : t.val + 1 = cfg0.N) (e : Fin 64) :
    sCol m c t.val t.isLt e = colSum (aX m c) (aG m c) (aE m c) e := by
  rw [Pipeline.eq_sum_fin_of_reset_step_apply_last (sCol m c) 8 (fun _ => 0) (partCol m c) (col_first h) (col_next h) (le_of_eq N_0) t ht e, zero_add]
  exact all_tokens fun n => maskAt (aX m c) (aG m c) (aE m c) n e

theorem g_last (t : Fin cfg0.N) (ht : t.val + 1 = cfg0.N) : sG m c t.val t.isLt 0 = gSquares (aX m c) (aG m c) := by
  rw [Pipeline.eq_sum_fin_of_reset_step_apply_last (sG m c) 8 (fun _ => 0) (partG m c) g_first g_next (le_of_eq N_0) t ht 0, zero_add]
  refine Eq.trans ?_ (all_tokens fun n => ∑ e, gl (aX m c) (aG m c) n e * gl (aX m c) (aG m c) n e)
  exact Finset.sum_congr rfl fun p _ => Finset.sum_comm

theorem l_last (t : Fin cfg0.N) (ht : t.val + 1 = cfg0.N) : sL m c t.val t.isLt 0 = lSquares (aX m c) (aE m c) := by
  rw [Pipeline.eq_sum_fin_of_reset_step_apply_last (sL m c) 8 (fun _ => 0) (partL m c) l_first l_next (le_of_eq N_0) t ht 0, zero_add]
  refine Eq.trans ?_ (all_tokens fun n => ∑ e, ll (aX m c) (aE m c) n e * ll (aX m c) (aE m c) n e)
  exact Finset.sum_congr rfl fun p _ => Finset.sum_comm

/-- At the last point the loss is stored, over the sums that point has just completed. -/
theorem loss_sums (t : Fin cfg0.N) (h1 : t.val % 8 = 7) :
    (outsAt0 m c t.val t.isLt).2.2.1 (ix2 0 0) = lossOf (sCol m c t.val t.isLt) (sG m c t.val t.isLt 0) (sL m c t.val t.isLt 0) := by
  have h0 : ¬t.val % 8 = 0 := by omega
  unfold sCol sG sL
  rw [outsAt0_C m c t h0 h1]
  frame_out
  exact loss_at _ _ _

theorem loss_last (h : RealArgs m c) (t : Fin cfg0.N) (ht : t.val + 1 = cfg0.N) :
    (outsAt0 m c t.val t.isLt).2.2.1 (ix2 0 0) = lossAt (aX m c) (aG m c) (aE m c) := by
  rw [loss_sums t (by have := show cfg0.N = 8 from N_0; omega), g_last t ht, l_last t ht,
    show sCol m c t.val t.isLt = colSum (aX m c) (aG m c) (aE m c) from funext fun e => col_last h t ht e]
  rfl

end Cert.KernelIdeal.Value

end
-- ==== Proof.KerArrays.lean ====
/- The kernel's three result arrays after the grid, and the two host operations that follow. -/
module

public import proofs.«01_k».proof.Proof.KerPoint

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen
open Router

variable {m : (ℓ : Loc nD τ sig) → Buf (Elt Ideal) ℓ} {c : Dev nD}

/-- The arrays as functions of their indices. -/
def fwArr (m : (ℓ : Loc nD τ sig) → Buf (Elt Ideal) ℓ) (c : Dev nD) : FVec Ideal S2x32768 .f32 :=
  fun i => weightAt (aX m c) (aG m c) (aE m c) (i 1) (i 0)
def maskArr (m : (ℓ : Loc nD τ sig) → Buf (Elt Ideal) ℓ) (c : Dev nD) : FVec Ideal S32768x64 .f32 :=
  fun i => maskAt (aX m c) (aG m c) (aE m c) (i 0) (i 1)
def lossArr (m : (ℓ : Loc nD τ sig) → Buf (Elt Ideal) ℓ) (c : Dev nD) : FVec Ideal S1x1 .f32 :=
  fun _ => lossAt (aX m c) (aG m c) (aE m c)

theorem fwArr_at (i : Fin 2) (n : Fin 32768) : fwArr m c (ix2 i n) = weightAt (aX m c) (aG m c) (aE m c) n i := rfl
theorem maskArr_at (n : Fin 32768) (e : Fin 64) : maskArr m c (ix2 n e) = maskAt (aX m c) (aG m c) (aE m c) n e := rfl

theorem emb_fw (t : Fin cfg0.N) (i : Fin 2) (l : Fin 4096) : ((cfg0.win 2).blk t).view.emb (ix2 i l) = ix2 i (lane t l) := by
  blk_ext [idx t, lane]
theorem emb_mask (t : Fin cfg0.N) (l : Fin 4096) (e : Fin 64) : ((cfg0.win 3).blk t).view.emb (ix2 l e) = ix2 (lane t l) e := by
  blk_ext [idx t, lane]

theorem final_fw (h : RealArgs m c) : (dats m 0 c).arrAt 2 (cfgs 0).N = fwArr m c := by
  refine (dats m 0 c).arrAt_eq_of_covers 2 _ (by decide +kernel) fun t _ y => ?_
  blk_simp
  rw [after0_2]
  idx_vars y
  exact (fw_after h t _ _).trans ((fwArr_at _ _).symm.trans (congrArg (fwArr m c) (emb_fw t _ _)).symm)

theorem final_mask (h : RealArgs m c) : (dats m 0 c).arrAt 3 (cfgs 0).N = maskArr m c := by
  refine (dats m 0 c).arrAt_eq_of_covers 3 _ (by decide +kernel) fun t _ y => ?_
  blk_simp
  rw [after0_3]
  idx_vars y
  exact (mask_after h t _ _).trans ((maskArr_at _ _).symm.trans (congrArg (maskArr m c) (emb_mask t _ _)).symm)

theorem final_loss (h : RealArgs m c) : (dats m 0 c).arrAt 4 (cfgs 0).N = lossArr m c := by
  refine (dats m 0 c).arrAt_eq_of_after_last 4 t0_7 (by decide +kernel) _ fun j => ?_
  blk_simp
  rw [after0_4]
  idx_vars j
  refine Eq.trans ?_ (loss_last h t0_7 rfl)
  congr 1
  blk_ext

end Cert.KernelIdeal.Value

end
-- ==== Proof.KerResults.lean ====
/- The kernel's run: its three results after the host operations that follow the grid. -/
module

public import proofs.«01_k».proof.Proof.KerArrays

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen
open Router

variable {m : (ℓ : Loc nD τ sig) → Buf (Elt Ideal) ℓ} {c : Dev nD}

/-- The weights and the loss as the program returns them. -/
def fwOut (m : (ℓ : Loc nD τ sig) → Buf (Elt Ideal) ℓ) (c : Dev nD) : FVec Ideal S32768x2 .f32 :=
  fun i => weightAt (aX m c) (aG m c) (aE m c) (i 0) (i 1)
def lossOut (m : (ℓ : Loc nD τ sig) → Buf (Elt Ideal) ℓ) (c : Dev nD) : FVec Ideal S_ .f32 :=
  fun _ => lossAt (aX m c) (aG m c) (aE m c)

theorem fw_turned : transpose S32768x2 [1, 0] (fwArr m c) transposes_S2x32768_S32768x2_1_0 = fwOut m c := by
  funext i
  idx_vars i
  refine Eq.trans ?_ (fwArr_at (m := m) (c := c) _ _)
  pointwise []

theorem tail_fw (h : RealArgs m c) : Pipeline.afterTail₀ cfgs (dats m) 0 (V0 m) [hostOps1] c main_v0_0 = fwOut m c := by
  unfold Pipeline.afterTail₀
  change StableHlo.after hostOps1 _ (Proc.devRef .tc main_v0_0) = _
  after_results
  simp only [StableHlo.TRef.ofBuf, StableHlo.TRef.toBuf, cast_cast, cast_eq]
  refine Eq.trans ?_ fw_turned
  refine congrArg (fun v => transpose S32768x2 [1, 0] v transposes_S2x32768_S32768x2_1_0) ?_
  exact (Pipeline.withArrays_arr spec0 launch0.win.arr_inj c _ _ 2).trans (final_fw h)

theorem tail_loss (h : RealArgs m c) : Pipeline.afterTail₀ cfgs (dats m) 0 (V0 m) [hostOps1] c main_v0_2 = lossOut m c := by
  unfold Pipeline.afterTail₀
  change StableHlo.after hostOps1 _ (Proc.devRef .tc main_v0_2) = _
  after_results
  refine Eq.trans (b := shapeCast S_ (lossArr m c) shapeCasts_S1x1_S_) ?_ rfl
  refine congrArg (fun v => shapeCast S_ v shapeCasts_S1x1_S_) ?_
  exact (Pipeline.withArrays_arr spec0 launch0.win.arr_inj c _ _ 4).trans (final_loss h)

/-- From real tokens and group weights the kernel ends with the three results, its arguments unchanged. -/
theorem run (ρ : Dev nD → PrngReg) (h : ∀ c, RealArgs m c) :
    θ_run defs (onTc (τ := τ) (main (F := Ideal))) ⟨m, fun _ => 0, ρ⟩ (fun r => ∀ c : Dev nD,
      r.2.mem ((c.tc : Thread nD τ).loc main_v0_0) = fwOut m c
      ∧ r.2.mem ((c.tc : Thread nD τ).loc main_v0_1) = maskArr m c
      ∧ r.2.mem ((c.tc : Thread nD τ).loc main_v0_2) = lossOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ q c =>
    ⟨((q c).2 main_v0_0 (Pipeline.mem_restRefs_of main_v0_0 (by decide) (by decide))).trans (tail_fw (h c)),
      ((q c).1 3).trans (final_mask (h c)),
      ((q c).2 main_v0_2 (Pipeline.mem_restRefs_of main_v0_2 (by decide) (by decide))).trans (tail_loss (h c)),
      ((q c).2 main_arg0 (Pipeline.mem_restRefs_of main_arg0 (by decide) (by decide))).trans (W_main_arg0 m (dats m) c),
      ((q c).2 main_arg1 (Pipeline.mem_restRefs_of main_arg1 (by decide) (by decide))).trans (W_main_arg1 m (dats m) c),
      ((q c).2 main_arg2 (Pipeline.mem_restRefs_of main_arg2 (by decide) (by decide))).trans (W_main_arg2 m (dats m) c)⟩)
    (run_main m ρ)

end Cert.KernelIdeal.Value

end
-- ==== Proof.TopRow.lean ====
/- The host's top-k of the rows of a matrix of extended reals, from what the stable sort puts at a position. -/
module

public import proofs.«01_k».proof.Proof.Spec
public import Idealize.ShloMosaic.Lib.Pointwise

@[expose] public section

noncomputable section

namespace Router

open Idealize.ShloMosaic

theorem along_row {N n : ℕ} (r : Fin N) (i k : Fin n) :
    (ix2 r i : (⟨2, ![N, n]⟩ : Shape).Idx).along (1 : Fin 2) k = ix2 r k := by
  unfold Shape.Idx.along
  funext q
  match q with
  | ⟨0, _⟩ => rfl
  | ⟨1, _⟩ => rfl

theorem slice_row {α : Type} {N n k : ℕ} (x : (⟨2, ![N, n]⟩ : Shape).Idx → α) (h : (⟨2, ![N, n]⟩ : Shape).Slices (fun _ => 0) ⟨2, ![N, k]⟩)
    (r : Fin N) (i : Fin k) (hi : i.val < n) : extractStridedSlice ⟨2, ![N, k]⟩ (fun _ => 0) x h (ix2 r i) = x (ix2 r ⟨i.val, hi⟩) := by
  unfold extractStridedSlice
  congr 1
  funext q
  match q with
  | ⟨0, _⟩ => exact Fin.ext (Nat.zero_add _)
  | ⟨1, _⟩ => exact Fin.ext (Nat.zero_add _)

theorem gt_iff (a b : EReal) : (FloatOps.cmpfTotal (F := Ideal) (φ := .f32) .gt a b == 1#1) = decide (b < a) := by
  show ((BitVec.ofBool (decide (b < a))) == 1#1) = _
  by_cases h : b < a <;> simp [h]

theorem topK_row {N n k : ℕ} (p : FVec Ideal ⟨2, ![N, n]⟩ .f32) (h : (⟨2, ![N, n]⟩ : Shape).Slices (fun _ => 0) ⟨2, ![N, k]⟩)
    (r : Fin N) (i : Fin k) (a : Fin n) (hi : i.val < n)
    (ha : ∀ B : Fin n → Fin n → Bool, (∀ j j', B j j' = decide (p (ix2 r j') < p (ix2 r j))) → sortedFrom B ⟨i.val, hi⟩ = a) :
    (Host.topK ⟨2, ![N, k]⟩ 1 (FloatOps.cmpfTotal (F := Ideal) .gt) p h).1 (ix2 r i) = p (ix2 r a)
      ∧ (Host.topK ⟨2, ![N, k]⟩ 1 (FloatOps.cmpfTotal (F := Ideal) .gt) p h).2 (ix2 r i) = BitVec.ofNat 32 a.val := by
  have hd : 1 < (⟨2, ![N, n]⟩ : Shape).rank := Nat.one_lt_two
  have key := ha (fun j j' => FloatOps.cmpfTotal (F := Ideal) (φ := .f32) .gt (p ((ix2 r ⟨i.val, hi⟩ : (⟨2, ![N, n]⟩ : Shape).Idx).along (1 : Fin 2) j))
    (p ((ix2 r ⟨i.val, hi⟩ : (⟨2, ![N, n]⟩ : Shape).Idx).along (1 : Fin 2) j')) == 1#1)
    (fun j j' => by rw [gt_iff, along_row, along_row])
  have e := (congrArg (Shape.Idx.along (ix2 r ⟨i.val, hi⟩ : (⟨2, ![N, n]⟩ : Shape).Idx) (1 : Fin 2)) key).trans (along_row r ⟨i.val, hi⟩ a)
  unfold Host.topK Host.sort2
  simp only [dif_pos hd, slice_row _ _ r i hi]
  exact ⟨congrArg p e, (congrArg (iotaInDim (⟨2, ![N, n]⟩ : Shape) 32 ⟨1, hd⟩) e).trans rfl⟩

end Router

end
-- ==== Proof.RefRead.lean ====
/- The reference's operations read at an index: the softmaxes, what the top-k picks, the weights, the columns. -/
module

public import proofs.«01_k».proof.Proof.Gen.ReferenceIdeal.Run
public import proofs.«01_k».proof.Proof.Tokens
public import proofs.«01_k».proof.Proof.TopRow

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Router

/-! ## The softmax of a row -/

theorem max_eq_top {n : ℕ} (v : Fin (n + 1) → EReal) :
    max (Ideal.ofBits .f32 0xFF800000#32) (Finset.univ.fold max (Ideal.ofBits .f32 0xFF800000#32) v) = v (top v) := by
  rw [bits_neg_inf, fold_top]
  exact max_eq_right bot_le

theorem exp16_at (x : FVec Ideal S32768x16 .f32) (n : Fin 32768) (e : Fin 16) :
    Host.exp (subf x (broadcastInDim S32768x16 ![0, 1] bcast_S32768x1_S32768x16_0_1 (broadcastInDim S32768x1 ![0] bcast_S32768_S32768x1_0 (maximumf (broadcastInDim S32768 ![] bcast_S_S32768 (constant S_ .f32 0xFF800000#32)) (Host.reduce FloatOps.maximumf x (constant S_ .f32 0xFF800000#32) reducesTo_S32768x16_S32768_d1 h_S_))))) (ix2 n e)
      = expo (fun e => x (ix2 n e)) e := by
  unfold expo
  have h := max_eq_top (fun e => x (ix2 n e))
  dsimp only at h ⊢
  rw [← h]
  pointwise

theorem exp4_at (x : FVec Ideal S32768x4 .f32) (n : Fin 32768) (e : Fin 4) :
    Host.exp (subf x (broadcastInDim S32768x4 ![0, 1] bcast_S32768x1_S32768x4_0_1 (broadcastInDim S32768x1 ![0] bcast_S32768_S32768x1_0 (maximumf (broadcastInDim S32768 ![] bcast_S_S32768 (constant S_ .f32 0xFF800000#32)) (Host.reduce FloatOps.maximumf x (constant S_ .f32 0xFF800000#32) reducesTo_S32768x4_S32768_d1 h_S_))))) (ix2 n e)
      = expo (fun e => x (ix2 n e)) e := by
  unfold expo
  have h := max_eq_top (fun e => x (ix2 n e))
  dsimp only at h ⊢
  rw [← h]
  pointwise

variable (V : Valuation τ sig (Elt Ideal))

abbrev argX : FVec Ideal S4x8192x768 .f32 := V (Proc.devRef .tc main_arg0)
abbrev argG : FVec Ideal S16x768 .f32 := V (Proc.devRef .tc main_arg1)
abbrev argE : FVec Ideal S4x768 .f32 := V (Proc.devRef .tc main_arg2)

abbrev rG : FVec Ideal S32768x16 .f32 := res_main_v2 (F := Ideal) V
abbrev rL : FVec Ideal S32768x4 .f32 := res_main_v17 (F := Ideal) V
abbrev eG : FVec Ideal S32768x16 .f32 := res_main_v9 (F := Ideal) V
abbrev eL : FVec Ideal S32768x4 .f32 := res_main_v24 (F := Ideal) V
abbrev pG : FVec Ideal S32768x16 .f32 := res_main_v13 (F := Ideal) V
abbrev pL : FVec Ideal S32768x4 .f32 := res_main_v28 (F := Ideal) V
abbrev tL : FVec Ideal S32768x2 .f32 := res_main_values_5 (F := Ideal) V
abbrev fw : FVec Ideal S32768x2 .f32 := res_main_v42 (F := Ideal) V
abbrev ex : IVec S32768x2 32 := res_main_v33 (F := Ideal) V

theorem v2_at (n : Fin 32768) (e : Fin 16) : rG V (ix2 n e) = gl (argX V) (argG V) n e := by
  unfold gl tok
  pointwise [res_main_v2, res_main_v0]
theorem v17_at (n : Fin 32768) (e : Fin 4) : rL V (ix2 n e) = ll (argX V) (argE V) n e := by
  unfold ll tok
  pointwise [res_main_v17, res_main_v0]

theorem v13_at (n : Fin 32768) (e : Fin 16) : pG V (ix2 n e) = prob (gl (argX V) (argG V) n) e := by
  have h : ∀ e, eG V (ix2 n e) = expo (gl (argX V) (argG V) n) e := fun e =>
    (exp16_at (rG V) n e).trans (congrArg (expo · e) (funext fun e => v2_at V n e))
  unfold prob
  rw [← h, ← Finset.sum_congr rfl fun e _ => h e]
  pointwise [res_main_v13]

theorem v28_at (n : Fin 32768) (e : Fin 4) : pL V (ix2 n e) = prob (ll (argX V) (argE V) n) e := by
  have h : ∀ e, eL V (ix2 n e) = expo (ll (argX V) (argE V) n) e := fun e =>
    (exp4_at (rL V) n e).trans (congrArg (expo · e) (funext fun e => v17_at V n e))
  unfold prob
  rw [← h, ← Finset.sum_congr rfl fun e _ => h e]
  pointwise [res_main_v28]

/-! ## The top-k -/

section Picked

variable {V} (hG : ∀ n, Reals (gl (argX V) (argG V) n))

include hG in
theorem topG_at (n : Fin 32768) :
    (Host.topK S32768x1 1 (FloatOps.cmpfTotal (F := Ideal) .gt) (pG V) sliceFits_S32768x16_S32768x1).1 (ix2 n 0)
        = prob (gl (argX V) (argG V) n) (top (gl (argX V) (argG V) n))
      ∧ (Host.topK S32768x1 1 (FloatOps.cmpfTotal (F := Ideal) .gt) (pG V) sliceFits_S32768x16_S32768x1).2 (ix2 n 0)
        = BitVec.ofNat 32 (top (gl (argX V) (argG V) n)).val := by
  rw [← v13_at]
  refine topK_row (pG V) sliceFits_S32768x16_S32768x1 n 0 (top (gl (argX V) (argG V) n)) (by decide) fun B hB => ?_
  simp only [v13_at] at hB
  exact (prob_top_pick (hG n).tame).sorted_first B hB (by decide)

theorem topL_at (n : Fin 32768) (i : Fin 2) :
    (Host.topK S32768x2 1 (FloatOps.cmpfTotal (F := Ideal) .gt) (pL V) sliceFits_S32768x4_S32768x2).1 (ix2 n i)
        = prob (ll (argX V) (argE V) n) (expert (prob (ll (argX V) (argE V) n)) i)
      ∧ (Host.topK S32768x2 1 (FloatOps.cmpfTotal (F := Ideal) .gt) (pL V) sliceFits_S32768x4_S32768x2).2 (ix2 n i)
        = BitVec.ofNat 32 (expert (prob (ll (argX V) (argE V) n)) i).val := by
  rw [← v28_at]
  refine topK_row (pL V) sliceFits_S32768x4_S32768x2 n i (expert (prob (ll (argX V) (argE V) n)) i) (by omega) fun B hB => ?_
  simp only [v28_at] at hB
  fin_cases i
  · exact (top_pick _).sorted_first B hB (by decide)
  · exact (top_pick _).sorted_second (second_pick _) B hB (by decide)

/-! ## The weights and the columns -/

include hG in
theorem v42_at (n : Fin 32768) (i : Fin 2) :
    fw V (ix2 n i) = weightAt (argX V) (argG V) (argE V) n i := by
  have hv : ∀ i, tL V (ix2 n i)
      = prob (ll (argX V) (argE V) n) (expert (ll (argX V) (argE V) n) i) := fun i => (topL_at n i).1.trans (prob_expert _ i)
  have key : ∀ (a : FVec Ideal S32768x1 .f32) (b : FVec Ideal S32768x2 .f32) (A : EReal) (B : Fin 2 → EReal),
      a (ix2 n 0) = A → (∀ j, b (ix2 n j) = B j) → mulf (broadcastInDim S32768x2 ![0, 1] bcast_S32768x1_S32768x2_0_1 (broadcastInDim S32768x1 ![0] bcast_S32768_S32768x1_0 (shapeCast _ a shapeCasts_S32768x1_S32768))) (Host.divf b (broadcastInDim S32768x2 ![0, 1] bcast_S32768x1_S32768x2_0_1 (addf (broadcastInDim S32768x1 ![0] bcast_S32768_S32768x1_0 (Host.reduceAdd b (constant S_ .f32 0x00000000#32) reducesTo_S32768x2_S32768_d1 h_S_)) (broadcastInDim S32768x1 ![] bcast_S_S32768x1 (constant S_ .f32 0x33D6BF95#32))))) (ix2 n i)
        = A * Ideal.div (B i) (∑ j, B j + Ideal.ofBits .f32 0x33D6BF95#32) := by
    rintro a b A B rfl hB
    rw [← hB, ← Finset.sum_congr rfl fun j _ => hB j]
    pointwise
  refine (key _ _ _ _ (topG_at hG n).1 hv).trans ?_
  unfold weightAt wt den
  rw [Fin.sum_univ_two]
  rfl

include hG in
theorem v33_at (n : Fin 32768) (i : Fin 2) :
    ex V (ix2 n i)
      = BitVec.ofNat 32 (col (gl (argX V) (argG V) n) (prob (ll (argX V) (argE V) n)) i) := by
  have key : ∀ (a : IVec S32768x1 32) (b : IVec S32768x2 32) (A B : BitVec 32), a (ix2 n 0) = A → b (ix2 n i) = B →
      addi (broadcastInDim S32768x2 ![0, 1] bcast_S32768x1_S32768x2_0_1 (broadcastInDim S32768x1 ![0] bcast_S32768_S32768x1_0 (muli (shapeCast _ a shapeCasts_S32768x1_S32768) (broadcastInDim S32768 ![] bcast_S_S32768 (constantI S_ 32 4#32))))) b (ix2 n i)
        = IntOp.addi (IntOp.muli A 4#32) B := by
    rintro a b A B rfl rfl
    pointwise
  refine (key _ _ _ _ (topG_at hG n).2 (topL_at n i).2).trans ?_
  unfold col
  show BitVec.ofNat 32 _ * BitVec.ofNat 32 4 + BitVec.ofNat 32 _ = _
  rw [← BitVec.ofNat_mul, ← BitVec.ofNat_add]

end Picked

end Cert.ReferenceIdeal.Value

end
-- ==== Proof.RefMask.lean ====
/- The reference's mask, two scatters of the weights, its column sums, and its loss. -/
module

public import proofs.«01_k».proof.Proof.RefRead
public import Idealize.ShloMosaic.Lib.Routing.OpsPair
public import Idealize.ShloMosaic.Lib.Routing.OpsSet

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Router

/-- An index vector as the program writes it: a negative entry counts from the end. -/
def wrapped (a : IVec S32768 32) (s : BitVec 32) : IVec S32768x1 32 :=
  broadcastInDim S32768x1 ![0] bcast_S32768_S32768x1_0 (select (cmpi .slt a (broadcastInDim S32768 ![] bcast_S_S32768 (constantI S_ 32 0#32))) (addi a (broadcastInDim S32768 ![] bcast_S_S32768 (constantI S_ 32 s))) a)

theorem wrapped_at (a : IVec S32768 32) (s : BitVec 32) (n : Fin 32768) (h : (a (ix1 n)).toNat < 2 ^ 31) :
    wrapped a s (ix2 n 0) = a (ix1 n) := by
  refine Eq.trans ?_ (Routing.wrap_of_lt (a (ix1 n)) (IntOp.addi (a (ix1 n)) s) h)
  pointwise [wrapped]

def pairs (a b : IVec S32768 32) : IVec S32768x2 32 :=
  concatenate S32768x2 1 [⟨S32768x1, wrapped a 32768#32⟩, ⟨S32768x1, wrapped b 64#32⟩] concatenates_S32768x1_S32768x1_S32768x2_d1

theorem pairs_0 (a b : IVec S32768 32) (n : Fin 32768) : pairs a b (ix2 n 0) = wrapped a 32768#32 (ix2 n 0) := by
  pointwise [pairs]
theorem pairs_1 (a b : IVec S32768 32) (n : Fin 32768) : pairs a b (ix2 n 1) = wrapped b 64#32 (ix2 n 0) := by
  pointwise [pairs]

def scat (z : FVec Ideal S32768x64 .f32) (a b : IVec S32768 32) (u : FVec Ideal S32768 .f32) : FVec Ideal S32768x64 .f32 :=
  Host.scatter scatter_S32768x64_S32768x2_S32768_n_01_01_1 (fun _ b => b) z (pairs a b) u

theorem lands (idx : IVec S32768x2 32) (k n : Fin 32768) (c : Fin 64) :
    scatter_S32768x64_S32768x2_S32768_n_01_01_1.resultIdx? (ix1 k) idx = some (ix2 n c)
      ↔ (idx (ix2 k 0)).toInt = n.val ∧ (idx (ix2 k 1)).toInt = c.val := by
  have h0 : scatter_S32768x64_S32768x2_S32768_n_01_01_1.start (ix1 k) idx 0 = (idx (ix2 k 0)).toInt := by
    unfold ScatterDims.start
    rw [dif_pos (by decide)]
    congr 2
    funext q
    match q with
    | ⟨0, _⟩ => rfl
    | ⟨1, _⟩ => rfl
  have h1 : scatter_S32768x64_S32768x2_S32768_n_01_01_1.start (ix1 k) idx 1 = (idx (ix2 k 1)).toInt := by
    unfold ScatterDims.start
    rw [dif_pos (by decide)]
    congr 2
    funext q
    match q with
    | ⟨0, _⟩ => rfl
    | ⟨1, _⟩ => rfl
  have w0 : scatter_S32768x64_S32768x2_S32768_n_01_01_1.window (ix1 k) 0 = 0 := by
    unfold ScatterDims.window
    rw [dif_neg (by decide)]
  have w1 : scatter_S32768x64_S32768x2_S32768_n_01_01_1.window (ix1 k) 1 = 0 := by
    unfold ScatterDims.window
    rw [dif_neg (by decide)]
  refine (Routing.resultIdx?_ix2 _ _ _ n c).trans ?_
  rw [h0, h1, w0, w1]
  simp

/-- One scatter: row `n` gets its weight at its column, the rest stays. -/
theorem scat_at (z : FVec Ideal S32768x64 .f32) (b : IVec S32768 32) (u : FVec Ideal S32768 .f32) (d : Fin 32768 → ℕ)
    (hd : ∀ n, d n < 64) (hb : ∀ n, b (ix1 n) = BitVec.ofNat 32 (d n)) (n : Fin 32768) (c : Fin 64) :
    scat z (iotaInDim S32768 32 0) b u (ix2 n c) = if c.val = d n then u (ix1 n) else z (ix2 n c) := by
  have ha : ∀ k : Fin 32768, iotaInDim S32768 32 0 (ix1 k) = BitVec.ofNat 32 k.val := fun k => rfl
  have toInt : ∀ j : ℕ, j < 32768 → (BitVec.ofNat 32 j).toInt = j ∧ (BitVec.ofNat 32 j).toNat < 2 ^ 31 := fun j hj => by
    rw [BitVec.toInt_ofNat', Int.bmod_def, BitVec.toNat_ofNat]
    omega
  have hl : ∀ k : Fin 32768, scatter_S32768x64_S32768x2_S32768_n_01_01_1.resultIdx? (ix1 k) (pairs (iotaInDim S32768 32 0) b) = some (ix2 n c)
      ↔ k = n ∧ c.val = d n := fun k => by
    rw [lands, pairs_0, pairs_1, wrapped_at _ _ _ (by rw [ha]; exact (toInt _ k.isLt).2),
      wrapped_at _ _ _ (by rw [hb]; exact (toInt _ (by have := hd k; omega)).2), ha, hb, (toInt _ k.isLt).1,
      (toInt _ (by have := hd k; omega)).1, Fin.ext_iff]
    constructor
    · rintro ⟨h, g⟩
      have h' : k.val = n.val := by exact_mod_cast h
      have : k = n := Fin.ext h'
      subst this
      exact ⟨rfl, by exact_mod_cast g.symm⟩
    · rintro ⟨h, g⟩
      have : k = n := Fin.ext h
      subst this
      exact ⟨rfl, by exact_mod_cast g.symm⟩
  have hk : ∀ k : S32768.Idx, ∃ q : Fin 32768, k = ix1 q := fun k => ⟨k 0, funext fun q => by match q with | ⟨0, _⟩ => rfl⟩
  unfold scat
  by_cases h : c.val = d n
  · rw [if_pos h]
    refine Routing.scatter_set_hit _ _ _ _ _ _ (fun k g => ?_) (ix1 n) ((hl n).2 ⟨rfl, h⟩)
    obtain ⟨q, rfl⟩ := hk k
    rw [((hl q).1 g).1]
  · rw [if_neg h]
    refine Routing.scatter_set_miss _ _ _ _ _ fun k g => ?_
    obtain ⟨q, rfl⟩ := hk k
    exact h ((hl q).1 g).2

variable (V : Valuation τ sig (Elt Ideal))

/-- The reference's mask. -/
def maskR : FVec Ideal S32768x64 .f32 :=
  scat (scat (broadcastInDim S32768x64 ![] bcast_S_S32768x64 (constant S_ .f32 0x00000000#32)) (res_main_v44 (F := Ideal) V) (res_main_v46 (F := Ideal) V)
      (shapeCast _ (extractStridedSlice S32768x1 ![0, 0] (fw V) slices_S32768x2_S32768x1_0_0) shapeCasts_S32768x1_S32768))
    (res_main_v44 (F := Ideal) V) (res_main_v64 (F := Ideal) V)
    (shapeCast _ (extractStridedSlice S32768x1 ![0, 1] (fw V) slices_S32768x2_S32768x1_0_1) shapeCasts_S32768x1_S32768)

section Picked

variable {V} (hG : ∀ n, Reals (gl (argX V) (argG V) n))

include hG in
theorem maskR_at (n : Fin 32768) (c : Fin 64) : maskR V (ix2 n c) = maskAt (argX V) (argG V) (argE V) n c := by
  have c0 : ∀ n, (show IVec S32768 32 from res_main_v46 (F := Ideal) V) (ix1 n)
      = BitVec.ofNat 32 (col (gl (argX V) (argG V) n) (prob (ll (argX V) (argE V) n)) 0) := fun n => by
    rw [← v33_at hG]
    pointwise [res_main_v46]
  have c1 : ∀ n, (show IVec S32768 32 from res_main_v64 (F := Ideal) V) (ix1 n)
      = BitVec.ofNat 32 (col (gl (argX V) (argG V) n) (prob (ll (argX V) (argE V) n)) 1) := fun n => by
    rw [← v33_at hG]
    pointwise [res_main_v64]
  have u0 : shapeCast S32768 (extractStridedSlice S32768x1 ![0, 0] (fw V) slices_S32768x2_S32768x1_0_0) shapeCasts_S32768x1_S32768 (ix1 n)
      = weightAt (argX V) (argG V) (argE V) n 0 := by
    rw [← v42_at hG]
    pointwise
  have u1 : shapeCast S32768 (extractStridedSlice S32768x1 ![0, 1] (fw V) slices_S32768x2_S32768x1_0_1) shapeCasts_S32768x1_S32768 (ix1 n)
      = weightAt (argX V) (argG V) (argE V) n 1 := by
    rw [← v42_at hG]
    pointwise
  have z : broadcastInDim S32768x64 ![] bcast_S_S32768x64 (constant (F := Ideal) S_ .f32 0x00000000#32) (ix2 n c) = 0 := by
    pointwise
  unfold maskR
  refine (scat_at _ _ _ _ (fun n => col_lt _ _ 1) c1 n c).trans ?_
  rw [u1]
  refine (congrArg _ (scat_at _ _ _ _ (fun n => col_lt _ _ 0) c0 n c)).trans ?_
  rw [u0, z]
  exact mrow_prob _ _ c

/-! ## The loss -/

abbrev sumR (V : Valuation τ sig (Elt Ideal)) : FVec Ideal S64 .f32 := res_main_v81 (F := Ideal) V
abbrev devR (V : Valuation τ sig (Elt Ideal)) : FVec Ideal S64 .f32 := res_main_v85 (F := Ideal) V

include hG in
theorem v81_at (c : Fin 64) : sumR V (ix1 c) = colSum (argX V) (argG V) (argE V) c := by
  have key : ∀ (M : FVec Ideal S32768x64 .f32) (U : Fin 32768 → EReal), (∀ n, M (ix2 n c) = U n) →
      Host.reduceAdd M (constant S_ .f32 0x00000000#32) reducesTo_S32768x64_S64_d0 h_S_ (ix1 c) = ∑ n, U n := fun M U hU => by
    simp only [← hU]
    pointwise
  have e : sumR V = Host.reduceAdd (maskR V) (constant S_ .f32 0x00000000#32) reducesTo_S32768x64_S64_d0 h_S_ := by
    unfold sumR res_main_v81 maskR scat pairs wrapped
    rfl
  rw [e]
  exact key _ _ fun n => maskR_at hG n c

include hG in
theorem v85_at (c : Fin 64) : devR V (ix1 c)
    = colSum (argX V) (argG V) (argE V) c
      - Ideal.div (∑ c, colSum (argX V) (argG V) (argE V) c) (Ideal.ofBits FTy.f32 0x42800000#32) := by
  have key : ∀ (s : FVec Ideal S64 .f32) (U : Fin 64 → EReal), (∀ c, s (ix1 c) = U c) →
      subf s (broadcastInDim S64 ![] bcast_S_S64 (Host.divf (Host.reduceAdd s (constant S_ .f32 0x00000000#32) reducesTo_S64_S_d0 h_S_) (constant S_ .f32 0x42800000#32))) (ix1 c)
        = U c - Ideal.div (∑ c, U c) (Ideal.ofBits FTy.f32 0x42800000#32) := fun s U hU => by
    rw [← hU, ← Finset.sum_congr rfl fun c _ => hU c]
    pointwise
  exact key _ _ fun c => v81_at hG c

/-- The reference's loss. -/
def lossR (V : Valuation τ sig (Elt Ideal)) : FVec Ideal S_ .f32 :=
  mulf (constant S_ .f32 0x3A83126F#32) (addf (Host.divf (Host.reduceAdd (mulf (devR V) (devR V)) (constant S_ .f32 0x00000000#32) reducesTo_S64_S_d0 h_S_) (constant S_ .f32 0x42800000#32)) (addf (Host.divf (Host.reduceAdd (mulf (rG V) (rG V)) (constant S_ .f32 0x00000000#32) reducesTo_S32768x16_S_d0_1 h_S_) (constant S_ .f32 0x49000000#32)) (Host.divf (Host.reduceAdd (mulf (rL V) (rL V)) (constant S_ .f32 0x00000000#32) reducesTo_S32768x4_S_d0_1 h_S_) (constant S_ .f32 0x48000000#32))))

include hG in
theorem lossR_at (i : S_.Idx) : lossR V i = lossAt (argX V) (argG V) (argE V) := by
  have key : ∀ (d : FVec Ideal S64 .f32) (g : FVec Ideal S32768x16 .f32) (l : FVec Ideal S32768x4 .f32) (D : Fin 64 → EReal)
      (G : Fin 32768 → Fin 16 → EReal) (L : Fin 32768 → Fin 4 → EReal), (∀ c, d (ix1 c) = D c) → (∀ n e, g (ix2 n e) = G n e) →
      (∀ n e, l (ix2 n e) = L n e) →
      mulf (constant S_ .f32 0x3A83126F#32) (addf (Host.divf (Host.reduceAdd (mulf d d) (constant S_ .f32 0x00000000#32) reducesTo_S64_S_d0 h_S_) (constant S_ .f32 0x42800000#32)) (addf (Host.divf (Host.reduceAdd (mulf g g) (constant S_ .f32 0x00000000#32) reducesTo_S32768x16_S_d0_1 h_S_) (constant S_ .f32 0x49000000#32)) (Host.divf (Host.reduceAdd (mulf l l) (constant S_ .f32 0x00000000#32) reducesTo_S32768x4_S_d0_1 h_S_) (constant S_ .f32 0x48000000#32)))) i
      = Ideal.ofBits FTy.f32 0x3A83126F#32 * (Ideal.div (∑ c, D c * D c) (Ideal.ofBits FTy.f32 0x42800000#32)
        + (Ideal.div (∑ n, ∑ e, G n e * G n e) (Ideal.ofBits FTy.f32 0x49000000#32)
          + Ideal.div (∑ n, ∑ e, L n e * L n e) (Ideal.ofBits FTy.f32 0x48000000#32))) := by
    intro d g l D G L hD hg hl
    simp only [← hD, ← hg, ← hl]
    pointwise
  exact key (devR V) (rG V) (rL V) _ _ _ (fun c => v85_at hG c) (fun n e => v2_at V n e) fun n e => v17_at V n e

end Picked

end Cert.ReferenceIdeal.Value

end
-- ==== Proof.RefResults.lean ====
/- The reference's run: its three results. -/
module

public import proofs.«01_k».proof.Proof.RefMask

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Router

/-- From real tokens `x` and group weights `g` and any expert weights `e` the reference ends with the three results, its arguments unchanged. -/
theorem results (m : (ℓ : Loc nD τ sig) → Buf (Elt Ideal) ℓ) (ρ : Dev nD → PrngReg)
    (x : Dev nD → FVec Ideal S4x8192x768 .f32) (g : Dev nD → FVec Ideal S16x768 .f32) (e : Dev nD → FVec Ideal S4x768 .f32)
    (hx : ∀ c : Dev nD, m ((c.tc : Thread nD τ).loc main_arg0) = x c) (hg : ∀ c : Dev nD, m ((c.tc : Thread nD τ).loc main_arg1) = g c)
    (he : ∀ c : Dev nD, m ((c.tc : Thread nD τ).loc main_arg2) = e c) (rx : ∀ c, RealArr (x c)) (rg : ∀ c, RealArr (g c)) :
    θ_run defs (onTc (τ := τ) (main (F := Ideal))) ⟨m, fun _ => 0, ρ⟩ fun r => ∀ c : Dev nD,
      r.2.mem ((c.tc : Thread nD τ).loc main_v42) = (fun i => weightAt (x c) (g c) (e c) (i 0) (i 1) : FVec Ideal S32768x2 .f32)
      ∧ r.2.mem ((c.tc : Thread nD τ).loc main_v80) = (fun i => maskAt (x c) (g c) (e c) (i 0) (i 1) : FVec Ideal S32768x64 .f32)
      ∧ r.2.mem ((c.tc : Thread nD τ).loc main_v97) = (fun _ => lossAt (x c) (g c) (e c) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have ax : ∀ c, argX (StableHlo.launchContents m c) = x c := fun c => hx c
  have ag : ∀ c, argG (StableHlo.launchContents m c) = g c := fun c => hg c
  have ae : ∀ c, argE (StableHlo.launchContents m c) = e c := fun c => he c
  have hG : ∀ c n, Reals (gl (argX (StableHlo.launchContents m c)) (argG (StableHlo.launchContents m c)) n) := fun c n => by
    rw [ax, ag]
    exact reals_gl (rx c) (rg c) n
  refine (θ_run defs _ _).mono (fun r h c => ⟨(h c).1.trans ?_, (h c).2.1.trans ?_, (h c).2.2.1.trans ?_, (h c).2.2.2.1, (h c).2.2.2.2.1, (h c).2.2.2.2.2⟩) (run m ρ)
  · refine Eq.trans (b := fw (StableHlo.launchContents m c)) rfl ?_
    funext i
    idx_vars i
    refine (v42_at (hG c) _ _).trans ?_
    rw [ax, ag, ae]
  · refine Eq.trans (b := maskR (StableHlo.launchContents m c)) (by unfold maskR scat pairs wrapped; rfl) ?_
    funext i
    idx_vars i
    refine (maskR_at (hG c) _ _).trans ?_
    rw [ax, ag, ae]
  · refine Eq.trans (b := lossR (StableHlo.launchContents m c)) (by unfold lossR; rfl) ?_
    funext i
    refine (lossR_at (hG c) i).trans ?_
    rw [ax, ag, ae]

end Cert.ReferenceIdeal.Value

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Finite
public import proofs.«01_k».proof.Proof.KerResults
public import proofs.«01_k».proof.Proof.RefResults
public import Idealize.ShloMosaic.Adequacy
public import Idealize.ShloMosaic.Init
public import Idealize.ShloMosaic.Lib.Claim

@[expose] public section

noncomputable section

namespace Cert.Proof

open Idealize.ShloMosaic Idealize.SL.Sem Cert.Kernel

instance : Cert.Pre_finite.Facts := Cert.Pre_finite.facts

theorem reference_ends : Cert.quiescent_ReferenceIdeal := fun m g _ =>
  (θ_run Cert.ReferenceIdeal.defs _ _).mono (fun r h => ⟨fun c => ⟨(h c).2.2.2.1, (h c).2.2.2.2.1, (h c).2.2.2.2.2⟩,
      Idealize.ShloMosaic.sem_eq_zero_of_no_sems (by decide) r.2⟩)
    (Cert.ReferenceIdeal.Value.run m g)

theorem kernel_ends_finite : Cert.quiescent_KernelIdeal_pre_finite := fun m ρ _ => Cert.KernelIdeal.Gen.frame m ρ

theorem reference_ends_finite : Cert.quiescent_ReferenceIdeal_pre_finite := fun m g _ =>
  (θ_run Cert.ReferenceIdeal.defs _ _).mono (fun r h => ⟨fun c => ⟨(h c).2.2.2.1, (h c).2.2.2.2.1, (h c).2.2.2.2.2⟩,
      Idealize.ShloMosaic.sem_eq_zero_of_no_sems (by decide) r.2⟩)
    (Cert.ReferenceIdeal.Value.run m g)

/-- From real tokens and group weights the idealized kernel and the reference end with the same three results. -/
theorem same_results : Cert.algebraic_KernelIdeal_ReferenceIdeal_pre_finite := fun m g m' g' hpre hagree => by
  have real : ∀ c, Cert.KernelIdeal.Value.RealArgs m c := fun c => by
    exact Cert.Pre_finite.reals_of_fn _ _ _ (hpre c)
  exact ⟨Cert.KernelIdeal.Value.fwOut m, Cert.KernelIdeal.Value.maskArr m, Cert.KernelIdeal.Value.lossOut m,
    Cert.KernelIdeal.Value.run g real,
    Cert.ReferenceIdeal.Value.results m' g' _ _ _ (fun c => (hagree c).1) (fun c => (hagree c).2.1) (fun c => (hagree c).2.2)
      (fun c => (real c).1) (fun c => (real c).2)⟩

theorem claim : Cert.Claim := ⟨Cert.Kernel.Gen.facts, Cert.KernelIdeal.Gen.facts, Cert.ReferenceIdeal.Gen.facts, Cert.Pre_finite.facts,
  fun m ρ _ => Cert.Kernel.Gen.frame m ρ, fun m ρ _ => Cert.KernelIdeal.Gen.frame m ρ, kernel_ends_finite,
  reference_ends, reference_ends_finite, IdealRules.named_const.statement _ _ _ _ _ rfl, same_results⟩

end Cert.Proof

end
